-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  IdealRules.bf16_pair.BufferStatement Cert.KernelIdeal.S16x4x72x2x128 Cert.KernelIdeal.S16x4x72x1x128
  ∧ IdealRules.bf16_pair.Statement Cert.KernelIdeal.S256x128 Cert.KernelIdeal.S128x128
  ∧ IdealRules.bf16_pair.Statement Cert.KernelIdeal.S16x128 Cert.KernelIdeal.S8x128
  ∧ IdealRules.bf16_pair.Statement Cert.KernelIdeal.S8x2x128 Cert.KernelIdeal.S8x1x128

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_v66) = v2 c
          ∧ r.2.mem ((c.tc : Thread Cert.ReferenceIdeal.nD Cert.ReferenceIdeal.τ).loc Cert.ReferenceIdeal.main_v67) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S24x2048x3584 : Shape := ⟨3, ![24, 2048, 3584]⟩
abbrev S49152x3584 : Shape := ⟨2, ![49152, 3584]⟩
abbrev S112x49152 : Shape := ⟨2, ![112, 49152]⟩
abbrev S3584x49152 : Shape := ⟨2, ![3584, 49152]⟩
abbrev S3584x1536 : Shape := ⟨2, ![3584, 1536]⟩
abbrev S4096x128 : Shape := ⟨2, ![4096, 128]⟩
abbrev S4096x256 : Shape := ⟨2, ![4096, 256]⟩
abbrev S8x4096 : Shape := ⟨2, ![8, 4096]⟩
abbrev S256x4096 : Shape := ⟨2, ![256, 4096]⟩
abbrev S256x128 : Shape := ⟨2, ![256, 128]⟩
abbrev S16x4x72x128 : Shape := ⟨4, ![16, 4, 72, 128]⟩
abbrev S16x4x8x128 : Shape := ⟨4, ![16, 4, 8, 128]⟩
abbrev S2x128x128 : Shape := ⟨3, ![2, 128, 128]⟩
abbrev S256x256 : Shape := ⟨2, ![256, 256]⟩
abbrev S2048x128 : Shape := ⟨2, ![2048, 128]⟩
abbrev S128x128 : Shape := ⟨2, ![128, 128]⟩
abbrev S32x128 : Shape := ⟨2, ![32, 128]⟩
abbrev S16x128 : Shape := ⟨2, ![16, 128]⟩
abbrev S8x128 : Shape := ⟨2, ![8, 128]⟩
abbrev S1x1x72x128 : Shape := ⟨4, ![1, 1, 72, 128]⟩
abbrev S72x128 : Shape := ⟨2, ![72, 128]⟩
abbrev S1x1x8x128 : Shape := ⟨4, ![1, 1, 8, 128]⟩
abbrev S1x8x128 : Shape := ⟨3, ![1, 8, 128]⟩
abbrev S128x256 : Shape := ⟨2, ![128, 256]⟩
abbrev S1x128x128 : Shape := ⟨3, ![1, 128, 128]⟩
abbrev S49152x112 : Shape := ⟨2, ![49152, 112]⟩

abbrev nBuf : Space → Nat
  | .hbm => 7
  | .vmem => 16
  | .smem => 0
  | _ => 0

abbrev bufTy : (tb : Table) → Fin (tcTables nBuf tb) → BufTy
  | .hbm, ⟨0, _⟩ => ⟨S24x2048x3584, .bf16⟩
  | .hbm, ⟨1, _⟩ => ⟨S49152x3584, .bf16⟩
  | .hbm, ⟨2, _⟩ => ⟨S49152x3584, .fp8e4m3⟩
  | .hbm, ⟨3, _⟩ => ⟨S112x49152, .i8⟩
  | .hbm, ⟨4, _⟩ => ⟨S3584x49152, .fp8e4m3⟩
  | .hbm, ⟨5, _⟩ => ⟨S3584x1536, .i8⟩
  | .hbm, ⟨6, _⟩ => ⟨S49152x112, .i8⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .fp8e4m3⟩
  | .local _ .vmem, ⟨5, _⟩ => ⟨S4096x256, .fp8e4m3⟩
  | .local _ .vmem, ⟨6, _⟩ => ⟨S8x4096, .i8⟩
  | .local _ .vmem, ⟨7, _⟩ => ⟨S8x4096, .i8⟩
  | .local _ .vmem, ⟨8, _⟩ => ⟨S256x4096, .fp8e4m3⟩
  | .local _ .vmem, ⟨9, _⟩ => ⟨S256x4096, .fp8e4m3⟩
  | .local _ .vmem, ⟨10, _⟩ => ⟨S256x128, .i8⟩
  | .local _ .vmem, ⟨11, _⟩ => ⟨S256x128, .i8⟩
  | .local _ .vmem, ⟨12, _⟩ => ⟨S16x4x72x128, .i32⟩
  | .local _ .vmem, ⟨13, _⟩ => ⟨S16x4x8x128, .i32⟩
  | .local _ .vmem, ⟨14, _⟩ => ⟨S8x4096, .i32⟩
  | .local _ .vmem, ⟨15, _⟩ => ⟨S2x128x128, .i32⟩
  | _, _ => ⟨S24x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [BitOps F]

abbrev grid0 : Pipeline.Grid := ⟨2, ![12, 14], ![false, false]⟩

@[reducible] def k0_t1_loop : Scf.Loop 32 :=
  let c0_i32_0 : BitVec 32 := 0#32
  let c16_i32 : BitVec 32 := 16#32
  let v8 : BitVec 32 := Scalar.addi c0_i32_0 c16_i32
  let c1_i32 : BitVec 32 := 1#32
  ⟨c0_i32_0, v8, c1_i32⟩
def k0_mult1 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32 : BitVec 32 := 256#32
  let v22 : BitVec 32 := Scalar.muli arg12 c256_i32
  v22
def k0_mult2 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c128_i32 : BitVec 32 := 128#32
  let v24 : BitVec 32 := Scalar.muli arg12 c128_i32
  v24
def k0_off1 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c128_i32 : BitVec 32 := 128#32
  let v24 : BitVec 32 := Scalar.muli arg12 c128_i32
  let v25 : BitVec 32 := v24
  let v27 : Index := Scalar.indexCast v25
  let c0_13 : Index := 0#32
  ![Nat.mul 2 v27.toNat, 0]
def k0_off2 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c0_i32_15 : BitVec 32 := 0#32
  let c0_i32_16 : BitVec 32 := 0#32
  let c0_i32_17 : BitVec 32 := 0#32
  ![arg12.toNat, 0, 0, 0]
def k0_off3 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v320 : Index := Scalar.indexCast arg12
  let c0_129 : Index := 0#32
  let c0_130 : Index := 0#32
  let c0_131 : Index := 0#32
  ![v320.toNat, 0, 0, 0]
def k0_off4 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c0_i32_132 : BitVec 32 := 0#32
  let c0_i32_133 : BitVec 32 := 0#32
  let c0_i32_134 : BitVec 32 := 0#32
  ![arg12.toNat, 0, 0, 0]
def k0_mult3 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c8_i32_188 : BitVec 32 := 8#32
  let v429 : BitVec 32 := Scalar.muli arg12 c8_i32_188
  v429
def k0_off5 (k0_t1 : Fin k0_t1_loop.trips) : Fin 3 → Nat :=
  let c0_189 : Index := 0#32
  let c0_i32_0 : BitVec 32 := 0#32
  let c1_i32 : BitVec 32 := 1#32
  let arg12 : BitVec 32 := Scf.iv c0_i32_0 c1_i32 k0_t1
  let c8_i32_188 : BitVec 32 := 8#32
  let v429 : BitVec 32 := Scalar.muli arg12 c8_i32_188
  let v430 : BitVec 32 := v429
  let v431 : Index := Scalar.indexCast v430
  let c0_190 : Index := 0#32
  ![0, v431.toNat, 0]
def k0_off6 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c1_i32_191 : BitVec 32 := 1#32
  let c0_i32_192 : BitVec 32 := 0#32
  let c0_i32_193 : BitVec 32 := 0#32
  ![arg12.toNat, 1, 0, 0]
def k0_off7 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v719 : Index := Scalar.indexCast arg12
  let c1_332 : Index := 1#32
  let c0_333 : Index := 0#32
  let c0_334 : Index := 0#32
  ![v719.toNat, 1, 0, 0]
def k0_off8 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c1_i32_335 : BitVec 32 := 1#32
  let c0_i32_336 : BitVec 32 := 0#32
  let c0_i32_337 : BitVec 32 := 0#32
  ![arg12.toNat, 1, 0, 0]
def k0_mult4 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c8_i32_391 : BitVec 32 := 8#32
  let v828 : BitVec 32 := Scalar.muli arg12 c8_i32_391
  v828
def k0_off9 (k0_t1 : Fin k0_t1_loop.trips) : Fin 3 → Nat :=
  let c1_392 : Index := 1#32
  let c0_i32_0 : BitVec 32 := 0#32
  let c1_i32 : BitVec 32 := 1#32
  let arg12 : BitVec 32 := Scf.iv c0_i32_0 c1_i32 k0_t1
  let c8_i32_391 : BitVec 32 := 8#32
  let v828 : BitVec 32 := Scalar.muli arg12 c8_i32_391
  let v829 : BitVec 32 := v828
  let v830 : Index := Scalar.indexCast v829
  let c0_393 : Index := 0#32
  ![1, v830.toNat, 0]
def k0_off10 (k0_t1 : Fin k0_t1_loop.trips) : Fin 2 → Nat :=
  let c0_395 : Index := 0#32
  let c0_i32_0 : BitVec 32 := 0#32
  let c1_i32 : BitVec 32 := 1#32
  let arg12 : BitVec 32 := Scf.iv c0_i32_0 c1_i32 k0_t1
  let c256_i32 : BitVec 32 := 256#32
  let v22 : BitVec 32 := Scalar.muli arg12 c256_i32
  let v23 : BitVec 32 := v22
  let v837 : Index := Scalar.indexCast v23
  ![0, v837.toNat]
def k0_off11 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c2_i32_396 : BitVec 32 := 2#32
  let c0_i32_397 : BitVec 32 := 0#32
  let c0_i32_398 : BitVec 32 := 0#32
  ![arg12.toNat, 2, 0, 0]
def k0_off12 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v1125 : Index := Scalar.indexCast arg12
  let c2_537 : Index := 2#32
  let c0_538 : Index := 0#32
  let c0_539 : Index := 0#32
  ![v1125.toNat, 2, 0, 0]
def k0_off13 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c2_i32_540 : BitVec 32 := 2#32
  let c0_i32_541 : BitVec 32 := 0#32
  let c0_i32_542 : BitVec 32 := 0#32
  ![arg12.toNat, 2, 0, 0]
def k0_mult5 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32_596 : BitVec 32 := 256#32
  let v1234 : BitVec 32 := Scalar.muli arg12 c256_i32_596
  let c0_i32_597 : BitVec 32 := 0#32
  let v1235 : BitVec 32 := Scalar.addi v1234 c0_i32_597
  v1235
def k0_off14 (k0_t1 : Fin k0_t1_loop.trips) (c0_i32_597 : BitVec 32) : Fin 2 → Nat :=
  let c0_598 : Index := 0#32
  let c0_i32_0 : BitVec 32 := 0#32
  let c1_i32 : BitVec 32 := 1#32
  let arg12 : BitVec 32 := Scf.iv c0_i32_0 c1_i32 k0_t1
  let c256_i32_596 : BitVec 32 := 256#32
  let v1234 : BitVec 32 := Scalar.muli arg12 c256_i32_596
  let v1235 : BitVec 32 := Scalar.addi v1234 c0_i32_597
  let v1236 : BitVec 32 := v1235
  let v1237 : Index := Scalar.indexCast v1236
  ![0, v1237.toNat]
def k0_off15 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c3_i32 : BitVec 32 := 3#32
  let c0_i32_599 : BitVec 32 := 0#32
  let c0_i32_600 : BitVec 32 := 0#32
  ![arg12.toNat, 3, 0, 0]
def k0_off16 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v1525 : Index := Scalar.indexCast arg12
  let c3_739 : Index := 3#32
  let c0_740 : Index := 0#32
  let c0_741 : Index := 0#32
  ![v1525.toNat, 3, 0, 0]
def k0_off17 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c3_i32_742 : BitVec 32 := 3#32
  let c0_i32_743 : BitVec 32 := 0#32
  let c0_i32_744 : BitVec 32 := 0#32
  ![arg12.toNat, 3, 0, 0]
def k0_mult6 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32_798 : BitVec 32 := 256#32
  let v1634 : BitVec 32 := Scalar.muli arg12 c256_i32_798
  let c128_i32_799 : BitVec 32 := 128#32
  let v1635 : BitVec 32 := Scalar.addi v1634 c128_i32_799
  v1635
def k0_off18 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c256_i32 : BitVec 32 := 256#32
  let v22 : BitVec 32 := Scalar.muli arg12 c256_i32
  let v23 : BitVec 32 := v22
  let v1644 : Index := Scalar.indexCast v23
  let c0_802 : Index := 0#32
  ![v1644.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
abbrev S24x2048x3584 : Shape := ⟨3, ![24, 2048, 3584]⟩
abbrev S49152x3584 : Shape := ⟨2, ![49152, 3584]⟩
abbrev S112x49152 : Shape := ⟨2, ![112, 49152]⟩
abbrev S3584x49152 : Shape := ⟨2, ![3584, 49152]⟩
abbrev S3584x1536 : Shape := ⟨2, ![3584, 1536]⟩
abbrev S4096x128 : Shape := ⟨2, ![4096, 128]⟩
abbrev S4096x256 : Shape := ⟨2, ![4096, 256]⟩
abbrev S8x4096 : Shape := ⟨2, ![8, 4096]⟩
abbrev S256x4096 : Shape := ⟨2, ![256, 4096]⟩
abbrev S256x128 : Shape := ⟨2, ![256, 128]⟩
abbrev S16x4x72x128 : Shape := ⟨4, ![16, 4, 72, 128]⟩
abbrev S16x4x72x2x128 : Shape := ⟨5, ![16, 4, 72, 2, 128]⟩
abbrev S16x4x72x1x128 : Shape := ⟨5, ![16, 4, 72, 1, 128]⟩
abbrev S16x4x8x128 : Shape := ⟨4, ![16, 4, 8, 128]⟩
abbrev S2x128x128 : Shape := ⟨3, ![2, 128, 128]⟩
abbrev S256x256 : Shape := ⟨2, ![256, 256]⟩
abbrev S2048x128 : Shape := ⟨2, ![2048, 128]⟩
abbrev S128x128 : Shape := ⟨2, ![128, 128]⟩
abbrev S32x128 : Shape := ⟨2, ![32, 128]⟩
abbrev S16x128 : Shape := ⟨2, ![16, 128]⟩
abbrev S8x128 : Shape := ⟨2, ![8, 128]⟩
abbrev S1x1x72x2x128 : Shape := ⟨5, ![1, 1, 72, 2, 128]⟩
abbrev S72x2x128 : Shape := ⟨3, ![72, 2, 128]⟩
abbrev S8x2x128 : Shape := ⟨3, ![8, 2, 128]⟩
abbrev S8x1x128 : Shape := ⟨3, ![8, 1, 128]⟩
abbrev S1x1x8x128 : Shape := ⟨4, ![1, 1, 8, 128]⟩
abbrev S1x8x128 : Shape := ⟨3, ![1, 8, 128]⟩
abbrev S128x256 : Shape := ⟨2, ![128, 256]⟩
abbrev S1x128x128 : Shape := ⟨3, ![1, 128, 128]⟩
abbrev S49152x112 : Shape := ⟨2, ![49152, 112]⟩

abbrev nBuf : Space → Nat
  | .hbm => 7
  | .vmem => 16
  | .smem => 0
  | _ => 0

abbrev bufTy : (tb : Table) → Fin (tcTables nBuf tb) → BufTy
  | .hbm, ⟨0, _⟩ => ⟨S24x2048x3584, .bf16⟩
  | .hbm, ⟨1, _⟩ => ⟨S49152x3584, .bf16⟩
  | .hbm, ⟨2, _⟩ => ⟨S49152x3584, .fp8e4m3⟩
  | .hbm, ⟨3, _⟩ => ⟨S112x49152, .i8⟩
  | .hbm, ⟨4, _⟩ => ⟨S3584x49152, .fp8e4m3⟩
  | .hbm, ⟨5, _⟩ => ⟨S3584x1536, .i8⟩
  | .hbm, ⟨6, _⟩ => ⟨S49152x112, .i8⟩
  | .local _ .vmem, ⟨0, _⟩ => ⟨S4096x128, .bf16⟩
  | .local _ .vmem, ⟨1, _⟩ => ⟨S4096x128, .bf16⟩
  | .local _ .vmem, ⟨2, _⟩ => ⟨S4096x128, .bf16⟩
  | .local _ .vmem, ⟨3, _⟩ => ⟨S4096x128, .bf16⟩
  | .local _ .vmem, ⟨4, _⟩ => ⟨S4096x256, .fp8e4m3⟩
  | .local _ .vmem, ⟨5, _⟩ => ⟨S4096x256, .fp8e4m3⟩
  | .local _ .vmem, ⟨6, _⟩ => ⟨S8x4096, .i8⟩
  | .local _ .vmem, ⟨7, _⟩ => ⟨S8x4096, .i8⟩
  | .local _ .vmem, ⟨8, _⟩ => ⟨S256x4096, .fp8e4m3⟩
  | .local _ .vmem, ⟨9, _⟩ => ⟨S256x4096, .fp8e4m3⟩
  | .local _ .vmem, ⟨10, _⟩ => ⟨S256x128, .i8⟩
  | .local _ .vmem, ⟨11, _⟩ => ⟨S256x128, .i8⟩
  | .local _ .vmem, ⟨12, _⟩ => ⟨S16x4x72x2x128, .bf16⟩
  | .local _ .vmem, ⟨13, _⟩ => ⟨S16x4x8x128, .i32⟩
  | .local _ .vmem, ⟨14, _⟩ => ⟨S8x4096, .i32⟩
  | .local _ .vmem, ⟨15, _⟩ => ⟨S2x128x128, .i32⟩
  | _, _ => ⟨S24x2048x3584, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev main_v1_2 : Ref sig .tc := ⟨.hbm, 4, rfl⟩
abbrev main_v1_3 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![12, 14], ![false, false]⟩

@[reducible] def k0_t1_loop : Scf.Loop 32 :=
  let c0_i32_0 : BitVec 32 := 0#32
  let c16_i32 : BitVec 32 := 16#32
  let v8 : BitVec 32 := Scalar.addi c0_i32_0 c16_i32
  let c1_i32 : BitVec 32 := 1#32
  ⟨c0_i32_0, v8, c1_i32⟩
def k0_mult1 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32 : BitVec 32 := 256#32
  let v22 : BitVec 32 := Scalar.muli arg12 c256_i32
  v22
def k0_mult2 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c128_i32 : BitVec 32 := 128#32
  let v24 : BitVec 32 := Scalar.muli arg12 c128_i32
  v24
def k0_off1 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c128_i32 : BitVec 32 := 128#32
  let v24 : BitVec 32 := Scalar.muli arg12 c128_i32
  let v25 : BitVec 32 := v24
  let v27 : Index := Scalar.indexCast v25
  let c0_13 : Index := 0#32
  ![Nat.mul 2 v27.toNat, 0]
def k0_off2 (k0_t1 : Fin k0_t1_loop.trips) : Fin 5 → Nat :=
  let c0_i32_0 : BitVec 32 := 0#32
  let c1_i32 : BitVec 32 := 1#32
  let arg12 : BitVec 32 := Scf.iv c0_i32_0 c1_i32 k0_t1
  let c0_i32_15 : BitVec 32 := 0#32
  let c0_i32_16 : BitVec 32 := 0#32
  let c0_i32_17 : BitVec 32 := 0#32
  ![arg12.toNat, 0, 0, 0, 0]
def k0_off3 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v320 : Index := Scalar.indexCast arg12
  let c0_129 : Index := 0#32
  let c0_130 : Index := 0#32
  let c0_131 : Index := 0#32
  ![v320.toNat, 0, 0, 0]
def k0_off4 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c0_i32_132 : BitVec 32 := 0#32
  let c0_i32_133 : BitVec 32 := 0#32
  let c0_i32_134 : BitVec 32 := 0#32
  ![arg12.toNat, 0, 0, 0]
def k0_mult3 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c8_i32_188 : BitVec 32 := 8#32
  let v429 : BitVec 32 := Scalar.muli arg12 c8_i32_188
  v429
def k0_off5 (k0_t1 : Fin k0_t1_loop.trips) : Fin 3 → Nat :=
  let c0_189 : Index := 0#32
  let c0_i32_0 : BitVec 32 := 0#32
  let c1_i32 : BitVec 32 := 1#32
  let arg12 : BitVec 32 := Scf.iv c0_i32_0 c1_i32 k0_t1
  let c8_i32_188 : BitVec 32 := 8#32
  let v429 : BitVec 32 := Scalar.muli arg12 c8_i32_188
  let v430 : BitVec 32 := v429
  let v431 : Index := Scalar.indexCast v430
  let c0_190 : Index := 0#32
  ![0, v431.toNat, 0]
def k0_off6 (k0_t1 : Fin k0_t1_loop.trips) : Fin 5 → Nat :=
  let c0_i32_0 : BitVec 32 := 0#32
  let c1_i32 : BitVec 32 := 1#32
  let arg12 : BitVec 32 := Scf.iv c0_i32_0 c1_i32 k0_t1
  let c1_i32_191 : BitVec 32 := 1#32
  let c0_i32_192 : BitVec 32 := 0#32
  let c0_i32_193 : BitVec 32 := 0#32
  ![arg12.toNat, 1, 0, 0, 0]
def k0_off7 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v719 : Index := Scalar.indexCast arg12
  let c1_332 : Index := 1#32
  let c0_333 : Index := 0#32
  let c0_334 : Index := 0#32
  ![v719.toNat, 1, 0, 0]
def k0_off8 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c1_i32_335 : BitVec 32 := 1#32
  let c0_i32_336 : BitVec 32 := 0#32
  let c0_i32_337 : BitVec 32 := 0#32
  ![arg12.toNat, 1, 0, 0]
def k0_mult4 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c8_i32_391 : BitVec 32 := 8#32
  let v828 : BitVec 32 := Scalar.muli arg12 c8_i32_391
  v828
def k0_off9 (k0_t1 : Fin k0_t1_loop.trips) : Fin 3 → Nat :=
  let c1_392 : Index := 1#32
  let c0_i32_0 : BitVec 32 := 0#32
  let c1_i32 : BitVec 32 := 1#32
  let arg12 : BitVec 32 := Scf.iv c0_i32_0 c1_i32 k0_t1
  let c8_i32_391 : BitVec 32 := 8#32
  let v828 : BitVec 32 := Scalar.muli arg12 c8_i32_391
  let v829 : BitVec 32 := v828
  let v830 : Index := Scalar.indexCast v829
  let c0_393 : Index := 0#32
  ![1, v830.toNat, 0]
def k0_off10 (k0_t1 : Fin k0_t1_loop.trips) : Fin 2 → Nat :=
  let c0_395 : Index := 0#32
  let c0_i32_0 : BitVec 32 := 0#32
  let c1_i32 : BitVec 32 := 1#32
  let arg12 : BitVec 32 := Scf.iv c0_i32_0 c1_i32 k0_t1
  let c256_i32 : BitVec 32 := 256#32
  let v22 : BitVec 32 := Scalar.muli arg12 c256_i32
  let v23 : BitVec 32 := v22
  let v837 : Index := Scalar.indexCast v23
  ![0, v837.toNat]
def k0_off11 (k0_t1 : Fin k0_t1_loop.trips) : Fin 5 → Nat :=
  let c0_i32_0 : BitVec 32 := 0#32
  let c1_i32 : BitVec 32 := 1#32
  let arg12 : BitVec 32 := Scf.iv c0_i32_0 c1_i32 k0_t1
  let c2_i32_396 : BitVec 32 := 2#32
  let c0_i32_397 : BitVec 32 := 0#32
  let c0_i32_398 : BitVec 32 := 0#32
  ![arg12.toNat, 2, 0, 0, 0]
def k0_off12 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v1125 : Index := Scalar.indexCast arg12
  let c2_537 : Index := 2#32
  let c0_538 : Index := 0#32
  let c0_539 : Index := 0#32
  ![v1125.toNat, 2, 0, 0]
def k0_off13 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c2_i32_540 : BitVec 32 := 2#32
  let c0_i32_541 : BitVec 32 := 0#32
  let c0_i32_542 : BitVec 32 := 0#32
  ![arg12.toNat, 2, 0, 0]
def k0_mult5 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32_596 : BitVec 32 := 256#32
  let v1234 : BitVec 32 := Scalar.muli arg12 c256_i32_596
  let c0_i32_597 : BitVec 32 := 0#32
  let v1235 : BitVec 32 := Scalar.addi v1234 c0_i32_597
  v1235
def k0_off14 (k0_t1 : Fin k0_t1_loop.trips) (c0_i32_597 : BitVec 32) : Fin 2 → Nat :=
  let c0_598 : Index := 0#32
  let c0_i32_0 : BitVec 32 := 0#32
  let c1_i32 : BitVec 32 := 1#32
  let arg12 : BitVec 32 := Scf.iv c0_i32_0 c1_i32 k0_t1
  let c256_i32_596 : BitVec 32 := 256#32
  let v1234 : BitVec 32 := Scalar.muli arg12 c256_i32_596
  let v1235 : BitVec 32 := Scalar.addi v1234 c0_i32_597
  let v1236 : BitVec 32 := v1235
  let v1237 : Index := Scalar.indexCast v1236
  ![0, v1237.toNat]
def k0_off15 (k0_t1 : Fin k0_t1_loop.trips) : Fin 5 → Nat :=
  let c0_i32_0 : BitVec 32 := 0#32
  let c1_i32 : BitVec 32 := 1#32
  let arg12 : BitVec 32 := Scf.iv c0_i32_0 c1_i32 k0_t1
  let c3_i32 : BitVec 32 := 3#32
  let c0_i32_599 : BitVec 32 := 0#32
  let c0_i32_600 : BitVec 32 := 0#32
  ![arg12.toNat, 3, 0, 0, 0]
def k0_off16 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let v1525 : Index := Scalar.indexCast arg12
  let c3_739 : Index := 3#32
  let c0_740 : Index := 0#32
  let c0_741 : Index := 0#32
  ![v1525.toNat, 3, 0, 0]
def k0_off17 (k0_t1 : Fin k0_t1_loop.trips) : Fin 4 → Nat :=
  let c0_i32_0 : BitVec 32 := 0#32
  let c1_i32 : BitVec 32 := 1#32
  let arg12 : BitVec 32 := Scf.iv c0_i32_0 c1_i32 k0_t1
  let c3_i32_742 : BitVec 32 := 3#32
  let c0_i32_743 : BitVec 32 := 0#32
  let c0_i32_744 : BitVec 32 := 0#32
  ![arg12.toNat, 3, 0, 0]
def k0_mult6 (k0_t1 : Fin k0_t1_loop.trips) : BitVec 32 :=
  let c0_i32_0 : BitVec 32 := 0#32
  let c1_i32 : BitVec 32 := 1#32
  let arg12 : BitVec 32 := Scf.iv c0_i32_0 c1_i32 k0_t1
  let c256_i32_798 : BitVec 32 := 256#32
  let v1634 : BitVec 32 := Scalar.muli arg12 c256_i32_798
  let c128_i32_799 : BitVec 32 := 128#32
  let v1635 : BitVec 32 := Scalar.addi v1634 c128_i32_799
  v1635
def k0_off18 (k0_t1 : Fin k0_t1_loop.trips) : Fin 2 → Nat :=
  let c0_i32_0 : BitVec 32 := 0#32
  let c1_i32 : BitVec 32 := 1#32
  let arg12 : BitVec 32 := Scf.iv c0_i32_0 c1_i32 k0_t1
  let c256_i32 : BitVec 32 := 256#32
  let v22 : BitVec 32 := Scalar.muli arg12 c256_i32
  let v23 : BitVec 32 := v22
  let v1644 : Index := Scalar.indexCast v23
  let c0_802 : Index := 0#32
  ![v1644.toNat, 0]
def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  ![arg0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4096x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4096x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S8x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x4096 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S24x2048x3584 : Shape := ⟨3, ![24, 2048, 3584]⟩
abbrev S49152x112x32 : Shape := ⟨3, ![49152, 112, 32]⟩
abbrev S_ : Shape := ⟨0, ![]⟩
abbrev S49152x112 : Shape := ⟨2, ![49152, 112]⟩
abbrev S49152x112x1 : Shape := ⟨3, ![49152, 112, 1]⟩
abbrev S1536x32x3584 : Shape := ⟨3, ![1536, 32, 3584]⟩
abbrev S1536x3584 : Shape := ⟨2, ![1536, 3584]⟩
abbrev S1536x1x3584 : Shape := ⟨3, ![1536, 1, 3584]⟩
abbrev S49152x3584 : Shape := ⟨2, ![49152, 3584]⟩
abbrev S3584x49152 : Shape := ⟨2, ![3584, 49152]⟩
abbrev S3584x1536 : Shape := ⟨2, ![3584, 1536]⟩

abbrev nBuf : Space → Nat
  | .hbm => 119
  | .vmem => 0
  | .smem => 0
  | _ => 0

abbrev bufTy : (tb : Table) → Fin (tcTables nBuf tb) → BufTy
  | .hbm, ⟨0, _⟩ => ⟨S24x2048x3584, .bf16⟩
  | .hbm, ⟨1, _⟩ => ⟨S49152x112x32, .bf16⟩
  | .hbm, ⟨2, _⟩ => ⟨S49152x112x32, .f32⟩
  | .hbm, ⟨3, _⟩ => ⟨S49152x112x32, .f32⟩
  | .hbm, ⟨4, _⟩ => ⟨S_, .f32⟩
  | .hbm, ⟨5, _⟩ => ⟨S49152x112, .f32⟩
  | .hbm, ⟨6, _⟩ => ⟨S_, .f32⟩
  | .hbm, ⟨7, _⟩ => ⟨S49152x112, .f32⟩
  | .hbm, ⟨8, _⟩ => ⟨S49152x112, .f32⟩
  | .hbm, ⟨9, _⟩ => ⟨S49152x112, .f32⟩
  | .hbm, ⟨10, _⟩ => ⟨S_, .f32⟩
  | .hbm, ⟨11, _⟩ => ⟨S_, .f32⟩
  | .hbm, ⟨12, _⟩ => ⟨S49152x112, .f32⟩
  | .hbm, ⟨13, _⟩ => ⟨S49152x112, .f32⟩
  | .hbm, ⟨14, _⟩ => ⟨S49152x112, .f32⟩
  | .hbm, ⟨15, _⟩ => ⟨S_, .f32⟩
  | .hbm, ⟨16, _⟩ => ⟨S49152x112, .f32⟩
  | .hbm, ⟨17, _⟩ => ⟨S49152x112, .f32⟩
  | .hbm, ⟨18, _⟩ => ⟨S_, .f32⟩
  | .hbm, ⟨19, _⟩ => ⟨S49152x112, .f32⟩
  | .hbm, ⟨20, _⟩ => ⟨S49152x112, .i1⟩
  | .hbm, ⟨21, _⟩ => ⟨S_, .f32⟩
  | .hbm, ⟨22, _⟩ => ⟨S49152x112, .f32⟩
  | .hbm, ⟨23, _⟩ => ⟨S49152x112, .i1⟩
  | .hbm, ⟨24, _⟩ => ⟨S49152x112, .i1⟩
  | .hbm, ⟨25, _⟩ => ⟨S_, .f32⟩
  | .hbm, ⟨26, _⟩ => ⟨S_, .f32⟩
  | .hbm, ⟨27, _⟩ => ⟨S49152x112, .f32⟩
  | .hbm, ⟨28, _⟩ => ⟨S49152x112, .f32⟩
  | .hbm, ⟨29, _⟩ => ⟨S_, .i32⟩
  | .hbm, ⟨30, _⟩ => ⟨S_, .i32⟩
  | .hbm, ⟨31, _⟩ => ⟨S_, .f32⟩
  | .hbm, ⟨32, _⟩ => ⟨S49152x112, .f32⟩
  | .hbm, ⟨33, _⟩ => ⟨S49152x112, .f32⟩
  | .hbm, ⟨34, _⟩ => ⟨S_, .f32⟩
  | .hbm, ⟨35, _⟩ => ⟨S49152x112, .f32⟩
  | .hbm, ⟨36, _⟩ => ⟨S49152x112, .f32⟩
  | .hbm, ⟨37, _⟩ => ⟨S49152x112, .f32⟩
  | .hbm, ⟨38, _⟩ => ⟨S_, .f32⟩
  | .hbm, ⟨39, _⟩ => ⟨S49152x112, .f32⟩
  | .hbm, ⟨40, _⟩ => ⟨S49152x112, .f32⟩
  | .hbm, ⟨41, _⟩ => ⟨S49152x112x1, .f32⟩
  | .hbm, ⟨42, _⟩ => ⟨S49152x112x32, .f32⟩
  | .hbm, ⟨43, _⟩ => ⟨S49152x112x32, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S49152x112x32, .f32⟩
  | .hbm, ⟨48, _⟩ => ⟨S49152x112x32, .f32⟩
  | .hbm, ⟨49, _⟩ => ⟨S_, .f32⟩
  | .hbm, ⟨50, _⟩ => ⟨S49152x112x32, .f32⟩
  | .hbm, ⟨51, _⟩ => ⟨S49152x112x32, .f32⟩
  | .hbm, ⟨52, _⟩ => ⟨S49152x112x32, .fp8e4m3⟩
  | .hbm, ⟨53, _⟩ => ⟨S49152x112, .i32⟩
  | .hbm, ⟨54, _⟩ => ⟨S_, .i32⟩
  | .hbm, ⟨55, _⟩ => ⟨S49152x112, .i32⟩
  | .hbm, ⟨56, _⟩ => ⟨S49152x112, .i32⟩
  | .hbm, ⟨57, _⟩ => ⟨S49152x112, .i8⟩
  | .hbm, ⟨58, _⟩ => ⟨S1536x32x3584, .bf16⟩
  | .hbm, ⟨59, _⟩ => ⟨S1536x32x3584, .f32⟩
  | .hbm, ⟨60, _⟩ => ⟨S1536x32x3584, .f32⟩
  | .hbm, ⟨61, _⟩ => ⟨S_, .f32⟩
  | .hbm, ⟨62, _⟩ => ⟨S1536x3584, .f32⟩
  | .hbm, ⟨63, _⟩ => ⟨S_, .f32⟩
  | .hbm, ⟨64, _⟩ => ⟨S1536x3584, .f32⟩
  | .hbm, ⟨65, _⟩ => ⟨S1536x3584, .f32⟩
  | .hbm, ⟨66, _⟩ => ⟨S1536x3584, .f32⟩
  | .hbm, ⟨67, _⟩ => ⟨S_, .f32⟩
  | .hbm, ⟨68, _⟩ => ⟨S_, .f32⟩
  | .hbm, ⟨69, _⟩ => ⟨S1536x3584, .f32⟩
  | .hbm, ⟨70, _⟩ => ⟨S1536x3584, .f32⟩
  | .hbm, ⟨71, _⟩ => ⟨S1536x3584, .f32⟩
  | .hbm, ⟨72, _⟩ => ⟨S_, .f32⟩
  | .hbm, ⟨73, _⟩ => ⟨S1536x3584, .f32⟩
  | .hbm, ⟨74, _⟩ => ⟨S1536x3584, .f32⟩
  | .hbm, ⟨75, _⟩ => ⟨S_, .f32⟩
  | .hbm, ⟨76, _⟩ => ⟨S1536x3584, .f32⟩
  | .hbm, ⟨77, _⟩ => ⟨S1536x3584, .i1⟩
  | .hbm, ⟨78, _⟩ => ⟨S_, .f32⟩
  | .hbm, ⟨79, _⟩ => ⟨S1536x3584, .f32⟩
  | .hbm, ⟨80, _⟩ => ⟨S1536x3584, .i1⟩
  | .hbm, ⟨81, _⟩ => ⟨S1536x3584, .i1⟩
  | .hbm, ⟨82, _⟩ => ⟨S_, .f32⟩
  | .hbm, ⟨83, _⟩ => ⟨S_, .f32⟩
  | .hbm, ⟨84, _⟩ => ⟨S1536x3584, .f32⟩
  | .hbm, ⟨85, _⟩ => ⟨S1536x3584, .f32⟩
  | .hbm, ⟨86, _⟩ => ⟨S_, .i32⟩
  | .hbm, ⟨87, _⟩ => ⟨S_, .i32⟩
  | .hbm, ⟨88, _⟩ => ⟨S_, .f32⟩
  | .hbm, ⟨89, _⟩ => ⟨S1536x3584, .f32⟩
  | .hbm, ⟨90, _⟩ => ⟨S1536x3584, .f32⟩
  | .hbm, ⟨91, _⟩ => ⟨S_, .f32⟩
  | .hbm, ⟨92, _⟩ => ⟨S1536x3584, .f32⟩
  | .hbm, ⟨93, _⟩ => ⟨S1536x3584, .f32⟩
  | .hbm, ⟨94, _⟩ => ⟨S1536x3584, .f32⟩
  | .hbm, ⟨95, _⟩ => ⟨S_, .f32⟩
  | .hbm, ⟨96, _⟩ => ⟨S1536x3584, .f32⟩
  | .hbm, ⟨97, _⟩ => ⟨S1536x3584, .f32⟩
  | .hbm, ⟨98, _⟩ => ⟨S1536x1x3584, .f32⟩
  | .hbm, ⟨99, _⟩ => ⟨S1536x32x3584, .f32⟩
  | .hbm, ⟨100, _⟩ => ⟨S1536x32x3584, .f32⟩
  | .hbm, ⟨101, _⟩ => ⟨S_, .f32⟩
  | .hbm, ⟨102, _⟩ => ⟨S_, .f32⟩
  | .hbm, ⟨103, _⟩ => ⟨S_, .f32⟩
  | .hbm, ⟨104, _⟩ => ⟨S1536x32x3584, .f32⟩
  | .hbm, ⟨105, _⟩ => ⟨S1536x32x3584, .f32⟩
  | .hbm, ⟨106, _⟩ => ⟨S_, .f32⟩
  | .hbm, ⟨107, _⟩ => ⟨S1536x32x3584, .f32⟩
  | .hbm, ⟨108, _⟩ => ⟨S1536x32x3584, .f32⟩
  | .hbm, ⟨109, _⟩ => ⟨S1536x32x3584, .fp8e4m3⟩
  | .hbm, ⟨110, _⟩ => ⟨S1536x3584, .i32⟩
  | .hbm, ⟨111, _⟩ => ⟨S_, .i32⟩
  | .hbm, ⟨112, _⟩ => ⟨S1536x3584, .i32⟩
  | .hbm, ⟨113, _⟩ => ⟨S1536x3584, .i32⟩
  | .hbm, ⟨114, _⟩ => ⟨S1536x3584, .i8⟩
  | .hbm, ⟨115, _⟩ => ⟨S49152x3584, .fp8e4m3⟩
  | .hbm, ⟨116, _⟩ => ⟨S49152x3584, .fp8e4m3⟩
  | .hbm, ⟨117, _⟩ => ⟨S3584x49152, .fp8e4m3⟩
  | .hbm, ⟨118, _⟩ => ⟨S3584x1536, .i8⟩
  | _, _ => ⟨S24x2048x3584, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_cst : Ref sig .tc := ⟨.hbm, 4, rfl⟩
abbrev main_v3 : Ref sig .tc := ⟨.hbm, 5, rfl⟩
abbrev main_cst_0 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst_1 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_2 : Ref sig .tc := ⟨.hbm, 15, rfl⟩
abbrev main_v11 : Ref sig .tc := ⟨.hbm, 16, rfl⟩
abbrev main_v12 : Ref sig .tc := ⟨.hbm, 17, rfl⟩
abbrev main_cst_3 : Ref sig .tc := ⟨.hbm, 18, rfl⟩
abbrev main_v13 : Ref sig .tc := ⟨.hbm, 19, rfl⟩
abbrev main_v14 : Ref sig .tc := ⟨.hbm, 20, rfl⟩
abbrev main_cst_4 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_5 : Ref sig .tc := ⟨.hbm, 25, rfl⟩
abbrev main_call0_v0 : Ref sig .tc := ⟨.hbm, 26, rfl⟩
abbrev main_call0_v1 : Ref sig .tc := ⟨.hbm, 27, rfl⟩
abbrev main_v18 : Ref sig .tc := ⟨.hbm, 28, rfl⟩
abbrev main_c : Ref sig .tc := ⟨.hbm, 29, rfl⟩
abbrev main_c_6 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_call1_v3 : Ref sig .tc := ⟨.hbm, 34, rfl⟩
abbrev main_call1_v4 : Ref sig .tc := ⟨.hbm, 35, rfl⟩
abbrev main_v19 : Ref sig .tc := ⟨.hbm, 36, rfl⟩
abbrev main_v20 : Ref sig .tc := ⟨.hbm, 37, rfl⟩
abbrev main_cst_7 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_cst_8 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_c_10 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_cst_11 : Ref sig .tc := ⟨.hbm, 61, rfl⟩
abbrev main_v35 : Ref sig .tc := ⟨.hbm, 62, rfl⟩
abbrev main_cst_12 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_cst_13 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_14 : Ref sig .tc := ⟨.hbm, 72, rfl⟩
abbrev main_v43 : Ref sig .tc := ⟨.hbm, 73, rfl⟩
abbrev main_v44 : Ref sig .tc := ⟨.hbm, 74, rfl⟩
abbrev main_cst_15 : Ref sig .tc := ⟨.hbm, 75, rfl⟩
abbrev main_v45 : Ref sig .tc := ⟨.hbm, 76, rfl⟩
abbrev main_v46 : Ref sig .tc := ⟨.hbm, 77, rfl⟩
abbrev main_cst_16 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_17 : Ref sig .tc := ⟨.hbm, 82, rfl⟩
abbrev main_call3_v0 : Ref sig .tc := ⟨.hbm, 83, rfl⟩
abbrev main_call3_v1 : Ref sig .tc := ⟨.hbm, 84, rfl⟩
abbrev main_v50 : Ref sig .tc := ⟨.hbm, 85, rfl⟩
abbrev main_c_18 : Ref sig .tc := ⟨.hbm, 86, rfl⟩
abbrev main_c_19 : Ref sig .tc := ⟨.hbm, 87, rfl⟩
abbrev main_call4_v0 : Ref sig .tc := ⟨.hbm, 88, rfl⟩
abbrev main_call4_v1 : Ref sig .tc := ⟨.hbm, 89, rfl⟩
abbrev main_call4_v2 : Ref sig .tc := ⟨.hbm, 90, rfl⟩
abbrev main_call4_v3 : Ref sig .tc := ⟨.hbm, 91, rfl⟩
abbrev main_call4_v4 : Ref sig .tc := ⟨.hbm, 92, rfl⟩
abbrev main_v51 : Ref sig .tc := ⟨.hbm, 93, rfl⟩
abbrev main_v52 : Ref sig .tc := ⟨.hbm, 94, rfl⟩
abbrev main_cst_20 : Ref sig .tc := ⟨.hbm, 95, rfl⟩
abbrev main_v53 : Ref sig .tc := ⟨.hbm, 96, rfl⟩
abbrev main_v54 : Ref sig .tc := ⟨.hbm, 97, rfl⟩
abbrev main_v55 : Ref sig .tc := ⟨.hbm, 98, rfl⟩
abbrev main_v56 : Ref sig .tc := ⟨.hbm, 99, rfl⟩
abbrev main_v57 : Ref sig .tc := ⟨.hbm, 100, rfl⟩
abbrev main_cst_21 : Ref sig .tc := ⟨.hbm, 101, rfl⟩
abbrev main_cst_22 : Ref sig .tc := ⟨.hbm, 102, rfl⟩
abbrev main_call5_v0 : Ref sig .tc := ⟨.hbm, 103, rfl⟩
abbrev main_call5_v1 : Ref sig .tc := ⟨.hbm, 104, rfl⟩
abbrev main_call5_v2 : Ref sig .tc := ⟨.hbm, 105, rfl⟩
abbrev main_call5_v3 : Ref sig .tc := ⟨.hbm, 106, rfl⟩
abbrev main_call5_v4 : Ref sig .tc := ⟨.hbm, 107, rfl⟩
abbrev main_v58 : Ref sig .tc := ⟨.hbm, 108, rfl⟩
abbrev main_v59 : Ref sig .tc := ⟨.hbm, 109, rfl⟩
abbrev main_v60 : Ref sig .tc := ⟨.hbm, 110, rfl⟩
abbrev main_c_23 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩

abbrev nD : Nat := 1
abbrev τ : Topo := Topo.v7x

variable {F : FTy → Type} [FloatOps F]
-- ==== Proof.TripKernel.lean ====
module

public import proofs.«01_k».proof.Proof.Gen.Kernel.Frame
public import proofs.«01_k».proof.Proof.Gen.Kernel.Loops
public import Idealize.ShloMosaic.Lib.Tactic

/-!
One trip of the kernel's chunk loop, as a triple that names nothing of what the trip computes: it runs from the
buffers at some contents to the buffers at some contents. The four planes of each scratch that the trip works
on are held apart from the rest of the scratch.
-/

@[expose] public section

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [BitOps F]

local notation "𝕄" => MT nD τ sig Unit (Elt F) ℕ (UR sig nD τ) ℕ

section Planes

variable (k : Fin k0_t1_loop.trips)

/-- Plane `0` of the shift slab that trip `k` works on. -/
abbrev slab0 (arg8 : Memref sig .tc .vmem S16x4x72x128 .i32) : Memref sig .tc .vmem S72x128 .i32 :=
  (arg8.slice (Rect.unit (s := S16x4x72x128) (k0_off2 k) S1x1x72x128.size (k0_off2_inb k)) (fun _ => rfl)).squeeze S72x128 squeezes_S1x1x72x128_S72x128
/-- Plane `1` of the shift slab that trip `k` works on. -/
abbrev slab1 (arg8 : Memref sig .tc .vmem S16x4x72x128 .i32) : Memref sig .tc .vmem S72x128 .i32 :=
  (arg8.slice (Rect.unit (s := S16x4x72x128) (k0_off6 k) S1x1x72x128.size (k0_off6_inb k)) (fun _ => rfl)).squeeze S72x128 squeezes_S1x1x72x128_S72x128
/-- Plane `2` of the shift slab that trip `k` works on. -/
abbrev slab2 (arg8 : Memref sig .tc .vmem S16x4x72x128 .i32) : Memref sig .tc .vmem S72x128 .i32 :=
  (arg8.slice (Rect.unit (s := S16x4x72x128) (k0_off11 k) S1x1x72x128.size (k0_off11_inb k)) (fun _ => rfl)).squeeze S72x128 squeezes_S1x1x72x128_S72x128
/-- Plane `3` of the shift slab that trip `k` works on. -/
abbrev slab3 (arg8 : Memref sig .tc .vmem S16x4x72x128 .i32) : Memref sig .tc .vmem S72x128 .i32 :=
  (arg8.slice (Rect.unit (s := S16x4x72x128) (k0_off15 k) S1x1x72x128.size (k0_off15_inb k)) (fun _ => rfl)).squeeze S72x128 squeezes_S1x1x72x128_S72x128
/-- Plane `0` of the multiplier scratch that trip `k` works on. -/
abbrev inv0 (arg9 : Memref sig .tc .vmem S16x4x8x128 .i32) : Memref sig .tc .vmem S8x128 .i32 :=
  (arg9.slice (Rect.unit (s := S16x4x8x128) (k0_off4 k) S1x1x8x128.size (k0_off4_inb k)) (fun _ => rfl)).squeeze S8x128 squeezes_S1x1x8x128_S8x128
/-- Plane `1` of the multiplier scratch that trip `k` works on. -/
abbrev inv1 (arg9 : Memref sig .tc .vmem S16x4x8x128 .i32) : Memref sig .tc .vmem S8x128 .i32 :=
  (arg9.slice (Rect.unit (s := S16x4x8x128) (k0_off8 k) S1x1x8x128.size (k0_off8_inb k)) (fun _ => rfl)).squeeze S8x128 squeezes_S1x1x8x128_S8x128
/-- Plane `2` of the multiplier scratch that trip `k` works on. -/
abbrev inv2 (arg9 : Memref sig .tc .vmem S16x4x8x128 .i32) : Memref sig .tc .vmem S8x128 .i32 :=
  (arg9.slice (Rect.unit (s := S16x4x8x128) (k0_off13 k) S1x1x8x128.size (k0_off13_inb k)) (fun _ => rfl)).squeeze S8x128 squeezes_S1x1x8x128_S8x128
/-- Plane `3` of the multiplier scratch that trip `k` works on. -/
abbrev inv3 (arg9 : Memref sig .tc .vmem S16x4x8x128 .i32) : Memref sig .tc .vmem S8x128 .i32 :=
  (arg9.slice (Rect.unit (s := S16x4x8x128) (k0_off17 k) S1x1x8x128.size (k0_off17_inb k)) (fun _ => rfl)).squeeze S8x128 squeezes_S1x1x8x128_S8x128

end Planes

section Trip

variable (c : Dev nD) (i : grid0.Coords)
  (arg2 : Memref sig .tc .vmem S4096x128 .bf16) (harg2 : arg2.IsWhole) (arg3 : Memref sig .tc .vmem S4096x128 .bf16) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (arg8 : Memref sig .tc .vmem S16x4x72x128 .i32) (harg8 : arg8.IsWhole) (arg9 : Memref sig .tc .vmem S16x4x8x128 .i32) (harg9 : arg9.IsWhole) (arg10 : Memref sig .tc .vmem S8x4096 .i32) (harg10 : arg10.IsWhole) (arg11 : Memref sig .tc .vmem S2x128x128 .i32) (harg11 : arg11.IsWhole)

/-- A buffer held whole at some contents. -/
abbrev Held {s : Shape} {e : EltTy} (a : Memref sig .tc .vmem s e) : sProp 𝕄 :=
  iprop(∃ f : Buf (Elt F) (a.view.loc (c : Thread nD τ)), a.view.loc (c : Thread nD τ) ↦[a.view.set]{fullShare} f)

/-- What one trip of the chunk loop holds, before and after: the two input blocks at their contents, the
    buffers it writes at some contents. -/
def Trip (k : Fin k0_t1_loop.trips) (X0 : Buf (Elt F) (arg2.view.loc (c : Thread nD τ))) (X1 : Buf (Elt F) (arg3.view.loc (c : Thread nD τ))) : sProp 𝕄 :=
  iprop((arg2.view.loc (c : Thread nD τ) ↦[arg2.view.set]{fullShare} X0) ∗ (arg3.view.loc (c : Thread nD τ) ↦[arg3.view.set]{fullShare} X1)
    ∗ Held c arg4 ∗ Held c arg6 ∗ Held c arg10 ∗ Held c arg11
    ∗ Held c (slab0 k arg8) ∗ Held c (slab1 k arg8) ∗ Held c (slab2 k arg8) ∗ Held c (slab3 k arg8)
    ∗ Held c (inv0 k arg9) ∗ Held c (inv1 k arg9) ∗ Held c (inv2 k arg9) ∗ Held c (inv3 k arg9))

-- the body's term is long
set_option sl_exec.squeezeSlice true in
set_option sl_exec.stridedRows true in
set_option sl_exec.respelt true in
set_option maxHeartbeats 1000000 in
/-- One trip, its eight planes held by themselves. -/
theorem trip (k : Fin k0_t1_loop.trips) (X0 : Buf (Elt F) (arg2.view.loc (c : Thread nD τ))) (X1 : Buf (Elt F) (arg3.view.loc (c : Thread nD τ))) :
    Trip c arg2 arg3 arg4 arg6 arg8 arg9 arg10 arg11 k X0 X1
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 k ())
        (fun _ => Trip c arg2 arg3 arg4 arg6 arg8 arg9 arg10 arg11 k X0 X1) := by
  unfold Trip
  iintro ⟨H2, H3, ⟨%f4, H4⟩, ⟨%f6, H6⟩, ⟨%f10, H10⟩, ⟨%f11, H11⟩, ⟨%f8_0, H8_0⟩, ⟨%f8_1, H8_1⟩, ⟨%f8_2, H8_2⟩, ⟨%f8_3, H8_3⟩, ⟨%f9_0, H9_0⟩, ⟨%f9_1, H9_1⟩, ⟨%f9_2, H9_2⟩, ⟨%f9_3, H9_3⟩⟩
  sl_unfold [k0_t1_body]
  sl_exec_parts
  sl_step
  isplitl [H2]; · iexact H2
  isplitl [H3]; · iexact H3
  isplitl [H4]; · iexists _; iexact H4
  isplitl [H6]; · iexists _; iexact H6
  isplitl [H10]; · iexists _; iexact H10
  isplitl [H11]; · iexists _; iexact H11
  isplitl [H8_0]; · iexists _; iexact H8_0
  isplitl [H8_1]; · iexists _; iexact H8_1
  isplitl [H8_2]; · iexists _; iexact H8_2
  isplitl [H8_3]; · iexists _; iexact H8_3
  isplitl [H9_0]; · iexists _; iexact H9_0
  isplitl [H9_1]; · iexists _; iexact H9_1
  isplitl [H9_2]; · iexists _; iexact H9_2
  iexists _; iexact H9_3

end Trip

end Cert.Proof.Kernel

end
-- ==== Proof.Slots.lean ====
module

public import Idealize.ShloMosaic.Lib.Ring
public import Idealize.ShloMosaic.Lib.Tactic

/-!
Cutting four disjoint windows out of a buffer and putting them back. The chunk loop works, at each trip, on
four planes of a scratch buffer; a trip's proof holds each plane by itself.
-/

@[expose] public section

noncomputable section

namespace Cert.Proof

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

section Cut

variable {nD : Nat} {τ : Topo} {sig : RefSig} {Ix : Type} [DecidableEq Ix] {Val : EltTy → Type} {Name : Type} [DecidableEq Name]
variable {U : Type} [URA U] {Lvl : Type}

local notation "𝕄" => MT nD τ sig Ix Val Name U Lvl

variable {ℓ : Loc nD τ sig} {S A B C D : Finset (Idx ℓ)}

/-- A buffer at some contents is four disjoint parts of it, each at some contents, and the rest. -/
theorem four_out (hA : A ⊆ S) (hB : B ⊆ S) (hC : C ⊆ S) (hD : D ⊆ S)
    (hAB : Disjoint A B) (hAC : Disjoint A C) (hAD : Disjoint A D) (hBC : Disjoint B C) (hBD : Disjoint B D) (hCD : Disjoint C D) :
    (iprop(∃ f, ℓ ↦[S]{fullShare} f) : sProp 𝕄) ⊢ iprop((∃ f, ℓ ↦[A]{fullShare} f) ∗ (∃ f, ℓ ↦[B]{fullShare} f)
      ∗ (∃ f, ℓ ↦[C]{fullShare} f) ∗ (∃ f, ℓ ↦[D]{fullShare} f) ∗ ∃ f, ℓ ↦[(((S \ A) \ B) \ C) \ D]{fullShare} f) := by
  have hB' : B ⊆ S \ A := fun x h => Finset.mem_sdiff.mpr ⟨hB h, Finset.disjoint_right.mp hAB h⟩
  have hC' : C ⊆ (S \ A) \ B := fun x h => Finset.mem_sdiff.mpr ⟨Finset.mem_sdiff.mpr ⟨hC h, Finset.disjoint_right.mp hAC h⟩, Finset.disjoint_right.mp hBC h⟩
  have hD' : D ⊆ ((S \ A) \ B) \ C := fun x h => Finset.mem_sdiff.mpr ⟨Finset.mem_sdiff.mpr ⟨Finset.mem_sdiff.mpr ⟨hD h, Finset.disjoint_right.mp hAD h⟩, Finset.disjoint_right.mp hBD h⟩, Finset.disjoint_right.mp hCD h⟩
  iintro ⟨%f, H⟩
  ihave H := (pointsTo_split_subset hA).1 $$ H
  icases H with ⟨HA, H⟩
  ihave H := (pointsTo_split_subset hB').1 $$ H
  icases H with ⟨HB, H⟩
  ihave H := (pointsTo_split_subset hC').1 $$ H
  icases H with ⟨HC, H⟩
  ihave H := (pointsTo_split_subset hD').1 $$ H
  icases H with ⟨HD, H⟩
  isplitl [HA]; · iexists f; iexact HA
  isplitl [HB]; · iexists f; iexact HB
  isplitl [HC]; · iexists f; iexact HC
  isplitl [HD]; · iexists f; iexact HD
  iexists f; iexact H

/-- And back. -/
theorem four_in (hA : A ⊆ S) (hB : B ⊆ S) (hC : C ⊆ S) (hD : D ⊆ S)
    (hAB : Disjoint A B) (hAC : Disjoint A C) (hAD : Disjoint A D) (hBC : Disjoint B C) (hBD : Disjoint B D) (hCD : Disjoint C D) :
    (iprop((∃ f, ℓ ↦[A]{fullShare} f) ∗ (∃ f, ℓ ↦[B]{fullShare} f)
      ∗ (∃ f, ℓ ↦[C]{fullShare} f) ∗ (∃ f, ℓ ↦[D]{fullShare} f) ∗ ∃ f, ℓ ↦[(((S \ A) \ B) \ C) \ D]{fullShare} f) : sProp 𝕄)
    ⊢ iprop(∃ f, ℓ ↦[S]{fullShare} f) := by
  have hB' : B ⊆ S \ A := fun x h => Finset.mem_sdiff.mpr ⟨hB h, Finset.disjoint_right.mp hAB h⟩
  have hC' : C ⊆ (S \ A) \ B := fun x h => Finset.mem_sdiff.mpr ⟨Finset.mem_sdiff.mpr ⟨hC h, Finset.disjoint_right.mp hAC h⟩, Finset.disjoint_right.mp hBC h⟩
  have hD' : D ⊆ ((S \ A) \ B) \ C := fun x h => Finset.mem_sdiff.mpr ⟨Finset.mem_sdiff.mpr ⟨Finset.mem_sdiff.mpr ⟨hD h, Finset.disjoint_right.mp hAD h⟩, Finset.disjoint_right.mp hBD h⟩, Finset.disjoint_right.mp hCD h⟩
  iintro ⟨⟨%a, HA⟩, ⟨%b, HB⟩, ⟨%c, HC⟩, ⟨%d, HD⟩, ⟨%f, H⟩⟩
  ihave H := (pointsTo_join_subset hD') $$ [HD H]
  · isplitl [HD]; · iexact HD
    iexact H
  ihave H := (pointsTo_join_subset hC') $$ [HC H]
  · isplitl [HC]; · iexact HC
    iexact H
  ihave H := (pointsTo_join_subset hB') $$ [HB H]
  · isplitl [HB]; · iexact HB
    iexact H
  ihave H := (pointsTo_join_subset hA) $$ [HA H]
  · isplitl [HA]; · iexact HA
    iexact H
  iexists _; iexact H

end Cut

section Window

variable {sig : RefSig} {κ : Kind} {sp : Space} {s : Shape} {e : EltTy}

theorem window_subset (m : Memref sig κ sp s e) (r : Rect s) (hr : ∀ a, r.stride a = 1) (s' : Shape) (hs : r.shape.Squeezes s') :
    (((m.slice r hr).squeeze s' hs).view.set : Finset m.view.ty.Idx) ⊆ m.view.set := by
  have e : (((m.slice r hr).squeeze s' hs).view.set : Finset m.view.ty.Idx) = (m.view.slice r).set := View.set_reshape _ _
  rw [e]; exact View.set_slice_subset _ _

/-- Windows of a buffer at offsets that differ, by at least a window's extent, along one axis are disjoint. -/
theorem window_disjoint (m : Memref sig κ sp s e) {o o' z : Fin s.rank → Nat} (h : ∀ a, o a + z a ≤ s.size a) (h' : ∀ a, o' a + z a ≤ s.size a)
    (hr : ∀ a, (Rect.unit o z h).stride a = 1) (hr' : ∀ a, (Rect.unit o' z h').stride a = 1) (s' : Shape)
    (hs : (Rect.unit o z h).shape.Squeezes s') (hs' : (Rect.unit o' z h').shape.Squeezes s')
    (a : Fin s.rank) (ha : o a + z a ≤ o' a) :
    Disjoint (((m.slice (Rect.unit o z h) hr).squeeze s' hs).view.set : Finset m.view.ty.Idx) ((m.slice (Rect.unit o' z h') hr').squeeze s' hs').view.set := by
  have e (o : Fin s.rank → Nat) (h) (hr) (hs) : (((m.slice (Rect.unit o z h) hr).squeeze s' hs).view.set : Finset m.view.ty.Idx)
      = (m.view.slice (Rect.unit o z h)).set := View.set_reshape _ _
  rw [e, e]
  rw [View.set_slice, View.set_slice]; refine (Finset.disjoint_map _).mpr ?_
  rw [Finset.disjoint_left]
  intro i hi hi'
  have h1 := (Rect.mem_set_unit.mp hi) a
  have h2 := (Rect.mem_set_unit.mp hi') a
  omega

end Window

end Cert.Proof

end
-- ==== Proof.FrameKernel.lean ====
module

public import proofs.«01_k».proof.Proof.TripKernel
public import proofs.«01_k».proof.Proof.Slots
public import Idealize.ShloMosaic.Lib.Claim

/-!
The frame of `Kernel`: every run ends with the argument unchanged and every semaphore counter at zero. The chunk loop
runs by an invariant that names the two input blocks only; the outputs' contents are stated nowhere.
-/

@[expose] public section

set_option maxRecDepth 16384

noncomputable section

namespace Cert.Proof.Kernel

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

section Body

variable (c : Dev nD) (i : grid0.Coords)

/-- The four planes trip `k` works on, cut out of their scratch, -/
theorem slab_out (arg8 : Memref sig .tc .vmem S16x4x72x128 .i32) (k : Fin k0_t1_loop.trips) :
    Held c arg8 ⊢ iprop(Held (F := F) c (slab0 k arg8) ∗ Held (F := F) c (slab1 k arg8) ∗ Held (F := F) c (slab2 k arg8) ∗ Held (F := F) c (slab3 k arg8) ∗ iprop(∃ f : Buf (Elt F) (arg8.view.loc (c : Thread nD τ)), arg8.view.loc (c : Thread nD τ) ↦[(((arg8.view.set \ (slab0 k arg8).view.set) \ (slab1 k arg8).view.set) \ (slab2 k arg8).view.set) \ (slab3 k arg8).view.set]{fullShare} f)) :=
  four_out (window_subset _ _ _ _ _) (window_subset _ _ _ _ _) (window_subset _ _ _ _ _) (window_subset _ _ _ _ _)
    (window_disjoint arg8 _ _ (fun _ => rfl) (fun _ => rfl) _ _ _ 1 (by rw [k0_off2_eq, k0_off6_eq]; exact (by decide : 0 + 1 ≤ 1) : k0_off2 k 1 + S1x1x72x128.size 1 ≤ k0_off6 k 1))
    (window_disjoint arg8 _ _ (fun _ => rfl) (fun _ => rfl) _ _ _ 1 (by rw [k0_off2_eq, k0_off11_eq]; exact (by decide : 0 + 1 ≤ 2) : k0_off2 k 1 + S1x1x72x128.size 1 ≤ k0_off11 k 1))
    (window_disjoint arg8 _ _ (fun _ => rfl) (fun _ => rfl) _ _ _ 1 (by rw [k0_off2_eq, k0_off15_eq]; exact (by decide : 0 + 1 ≤ 3) : k0_off2 k 1 + S1x1x72x128.size 1 ≤ k0_off15 k 1))
    (window_disjoint arg8 _ _ (fun _ => rfl) (fun _ => rfl) _ _ _ 1 (by rw [k0_off6_eq, k0_off11_eq]; exact (by decide : 1 + 1 ≤ 2) : k0_off6 k 1 + S1x1x72x128.size 1 ≤ k0_off11 k 1))
    (window_disjoint arg8 _ _ (fun _ => rfl) (fun _ => rfl) _ _ _ 1 (by rw [k0_off6_eq, k0_off15_eq]; exact (by decide : 1 + 1 ≤ 3) : k0_off6 k 1 + S1x1x72x128.size 1 ≤ k0_off15 k 1))
    (window_disjoint arg8 _ _ (fun _ => rfl) (fun _ => rfl) _ _ _ 1 (by rw [k0_off11_eq, k0_off15_eq]; exact (by decide : 2 + 1 ≤ 3) : k0_off11 k 1 + S1x1x72x128.size 1 ≤ k0_off15 k 1))

/-- and put back. -/
theorem slab_in (arg8 : Memref sig .tc .vmem S16x4x72x128 .i32) (k : Fin k0_t1_loop.trips) :
    iprop(Held (F := F) c (slab0 k arg8) ∗ Held (F := F) c (slab1 k arg8) ∗ Held (F := F) c (slab2 k arg8) ∗ Held (F := F) c (slab3 k arg8) ∗ iprop(∃ f : Buf (Elt F) (arg8.view.loc (c : Thread nD τ)), arg8.view.loc (c : Thread nD τ) ↦[(((arg8.view.set \ (slab0 k arg8).view.set) \ (slab1 k arg8).view.set) \ (slab2 k arg8).view.set) \ (slab3 k arg8).view.set]{fullShare} f)) ⊢ Held c arg8 :=
  four_in (window_subset _ _ _ _ _) (window_subset _ _ _ _ _) (window_subset _ _ _ _ _) (window_subset _ _ _ _ _)
    (window_disjoint arg8 _ _ (fun _ => rfl) (fun _ => rfl) _ _ _ 1 (by rw [k0_off2_eq, k0_off6_eq]; exact (by decide : 0 + 1 ≤ 1) : k0_off2 k 1 + S1x1x72x128.size 1 ≤ k0_off6 k 1))
    (window_disjoint arg8 _ _ (fun _ => rfl) (fun _ => rfl) _ _ _ 1 (by rw [k0_off2_eq, k0_off11_eq]; exact (by decide : 0 + 1 ≤ 2) : k0_off2 k 1 + S1x1x72x128.size 1 ≤ k0_off11 k 1))
    (window_disjoint arg8 _ _ (fun _ => rfl) (fun _ => rfl) _ _ _ 1 (by rw [k0_off2_eq, k0_off15_eq]; exact (by decide : 0 + 1 ≤ 3) : k0_off2 k 1 + S1x1x72x128.size 1 ≤ k0_off15 k 1))
    (window_disjoint arg8 _ _ (fun _ => rfl) (fun _ => rfl) _ _ _ 1 (by rw [k0_off6_eq, k0_off11_eq]; exact (by decide : 1 + 1 ≤ 2) : k0_off6 k 1 + S1x1x72x128.size 1 ≤ k0_off11 k 1))
    (window_disjoint arg8 _ _ (fun _ => rfl) (fun _ => rfl) _ _ _ 1 (by rw [k0_off6_eq, k0_off15_eq]; exact (by decide : 1 + 1 ≤ 3) : k0_off6 k 1 + S1x1x72x128.size 1 ≤ k0_off15 k 1))
    (window_disjoint arg8 _ _ (fun _ => rfl) (fun _ => rfl) _ _ _ 1 (by rw [k0_off11_eq, k0_off15_eq]; exact (by decide : 2 + 1 ≤ 3) : k0_off11 k 1 + S1x1x72x128.size 1 ≤ k0_off15 k 1))

/-- The four planes trip `k` works on, cut out of their scratch, -/
theorem inv_out (arg9 : Memref sig .tc .vmem S16x4x8x128 .i32) (k : Fin k0_t1_loop.trips) :
    Held c arg9 ⊢ iprop(Held (F := F) c (inv0 k arg9) ∗ Held (F := F) c (inv1 k arg9) ∗ Held (F := F) c (inv2 k arg9) ∗ Held (F := F) c (inv3 k arg9) ∗ iprop(∃ f : Buf (Elt F) (arg9.view.loc (c : Thread nD τ)), arg9.view.loc (c : Thread nD τ) ↦[(((arg9.view.set \ (inv0 k arg9).view.set) \ (inv1 k arg9).view.set) \ (inv2 k arg9).view.set) \ (inv3 k arg9).view.set]{fullShare} f)) :=
  four_out (window_subset _ _ _ _ _) (window_subset _ _ _ _ _) (window_subset _ _ _ _ _) (window_subset _ _ _ _ _)
    (window_disjoint arg9 _ _ (fun _ => rfl) (fun _ => rfl) _ _ _ 1 (by rw [k0_off4_eq, k0_off8_eq]; exact (by decide : 0 + 1 ≤ 1) : k0_off4 k 1 + S1x1x8x128.size 1 ≤ k0_off8 k 1))
    (window_disjoint arg9 _ _ (fun _ => rfl) (fun _ => rfl) _ _ _ 1 (by rw [k0_off4_eq, k0_off13_eq]; exact (by decide : 0 + 1 ≤ 2) : k0_off4 k 1 + S1x1x8x128.size 1 ≤ k0_off13 k 1))
    (window_disjoint arg9 _ _ (fun _ => rfl) (fun _ => rfl) _ _ _ 1 (by rw [k0_off4_eq, k0_off17_eq]; exact (by decide : 0 + 1 ≤ 3) : k0_off4 k 1 + S1x1x8x128.size 1 ≤ k0_off17 k 1))
    (window_disjoint arg9 _ _ (fun _ => rfl) (fun _ => rfl) _ _ _ 1 (by rw [k0_off8_eq, k0_off13_eq]; exact (by decide : 1 + 1 ≤ 2) : k0_off8 k 1 + S1x1x8x128.size 1 ≤ k0_off13 k 1))
    (window_disjoint arg9 _ _ (fun _ => rfl) (fun _ => rfl) _ _ _ 1 (by rw [k0_off8_eq, k0_off17_eq]; exact (by decide : 1 + 1 ≤ 3) : k0_off8 k 1 + S1x1x8x128.size 1 ≤ k0_off17 k 1))
    (window_disjoint arg9 _ _ (fun _ => rfl) (fun _ => rfl) _ _ _ 1 (by rw [k0_off13_eq, k0_off17_eq]; exact (by decide : 2 + 1 ≤ 3) : k0_off13 k 1 + S1x1x8x128.size 1 ≤ k0_off17 k 1))

/-- and put back. -/
theorem inv_in (arg9 : Memref sig .tc .vmem S16x4x8x128 .i32) (k : Fin k0_t1_loop.trips) :
    iprop(Held (F := F) c (inv0 k arg9) ∗ Held (F := F) c (inv1 k arg9) ∗ Held (F := F) c (inv2 k arg9) ∗ Held (F := F) c (inv3 k arg9) ∗ iprop(∃ f : Buf (Elt F) (arg9.view.loc (c : Thread nD τ)), arg9.view.loc (c : Thread nD τ) ↦[(((arg9.view.set \ (inv0 k arg9).view.set) \ (inv1 k arg9).view.set) \ (inv2 k arg9).view.set) \ (inv3 k arg9).view.set]{fullShare} f)) ⊢ Held c arg9 :=
  four_in (window_subset _ _ _ _ _) (window_subset _ _ _ _ _) (window_subset _ _ _ _ _) (window_subset _ _ _ _ _)
    (window_disjoint arg9 _ _ (fun _ => rfl) (fun _ => rfl) _ _ _ 1 (by rw [k0_off4_eq, k0_off8_eq]; exact (by decide : 0 + 1 ≤ 1) : k0_off4 k 1 + S1x1x8x128.size 1 ≤ k0_off8 k 1))
    (window_disjoint arg9 _ _ (fun _ => rfl) (fun _ => rfl) _ _ _ 1 (by rw [k0_off4_eq, k0_off13_eq]; exact (by decide : 0 + 1 ≤ 2) : k0_off4 k 1 + S1x1x8x128.size 1 ≤ k0_off13 k 1))
    (window_disjoint arg9 _ _ (fun _ => rfl) (fun _ => rfl) _ _ _ 1 (by rw [k0_off4_eq, k0_off17_eq]; exact (by decide : 0 + 1 ≤ 3) : k0_off4 k 1 + S1x1x8x128.size 1 ≤ k0_off17 k 1))
    (window_disjoint arg9 _ _ (fun _ => rfl) (fun _ => rfl) _ _ _ 1 (by rw [k0_off8_eq, k0_off13_eq]; exact (by decide : 1 + 1 ≤ 2) : k0_off8 k 1 + S1x1x8x128.size 1 ≤ k0_off13 k 1))
    (window_disjoint arg9 _ _ (fun _ => rfl) (fun _ => rfl) _ _ _ 1 (by rw [k0_off8_eq, k0_off17_eq]; exact (by decide : 1 + 1 ≤ 3) : k0_off8 k 1 + S1x1x8x128.size 1 ≤ k0_off17 k 1))
    (window_disjoint arg9 _ _ (fun _ => rfl) (fun _ => rfl) _ _ _ 1 (by rw [k0_off13_eq, k0_off17_eq]; exact (by decide : 2 + 1 ≤ 3) : k0_off13 k 1 + S1x1x8x128.size 1 ≤ k0_off17 k 1))

variable (arg2 : Memref sig .tc .vmem S4096x128 .bf16) (harg2 : arg2.IsWhole) (arg3 : Memref sig .tc .vmem S4096x128 .bf16) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (arg8 : Memref sig .tc .vmem S16x4x72x128 .i32) (harg8 : arg8.IsWhole) (arg9 : Memref sig .tc .vmem S16x4x8x128 .i32) (harg9 : arg9.IsWhole) (arg10 : Memref sig .tc .vmem S8x4096 .i32) (harg10 : arg10.IsWhole) (arg11 : Memref sig .tc .vmem S2x128x128 .i32) (harg11 : arg11.IsWhole)

/-- What the chunk loop holds before every trip: the two input blocks at their contents, every buffer it writes
    at some contents. -/
def Inv (X0 : Buf (Elt F) (arg2.view.loc (c : Thread nD τ))) (X1 : Buf (Elt F) (arg3.view.loc (c : Thread nD τ))) : sProp 𝕄 :=
  iprop((arg2.view.loc (c : Thread nD τ) ↦[arg2.view.set]{fullShare} X0) ∗ (arg3.view.loc (c : Thread nD τ) ↦[arg3.view.set]{fullShare} X1)
    ∗ Held c arg4 ∗ Held c arg6 ∗ Held c arg8 ∗ Held c arg9 ∗ Held c arg10 ∗ Held c arg11)

theorem inv_step (X0 : Buf (Elt F) (arg2.view.loc (c : Thread nD τ))) (X1 : Buf (Elt F) (arg3.view.loc (c : Thread nD τ))) (k : Fin k0_t1_loop.trips) :
    Inv c arg2 arg3 arg4 arg6 arg8 arg9 arg10 arg11 X0 X1
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 k ())
        (fun _ => Inv c arg2 arg3 arg4 arg6 arg8 arg9 arg10 arg11 X0 X1) := by
  unfold Inv
  iintro ⟨H2, H3, H4, H6, H8, H9, H10, H11⟩
  ihave H8 := (slab_out c arg8 k) $$ H8
  icases H8 with ⟨H80, H81, H82, H83, H8⟩
  ihave H9 := (inv_out c arg9 k) $$ H9
  icases H9 with ⟨H90, H91, H92, H93, H9⟩
  iapply (wp_wand_r Idealize.ShloMosaic.frame (wpE (defs₀ (F := F)) Variants.none (c : Thread nD τ) none) Set.univ)
  isplitl [H2 H3 H4 H6 H10 H11 H80 H81 H82 H83 H90 H91 H92 H93]
  · iapply (trip c i arg2 harg2 arg3 harg3 arg4 harg4 arg5 harg5 arg6 harg6 arg7 harg7 arg8 harg8 arg9 harg9 arg10 harg10 arg11 harg11 k X0 X1)
    unfold Trip
    isplitl [H2]; · iexact H2
    isplitl [H3]; · iexact H3
    isplitl [H4]; · iexact H4
    isplitl [H6]; · iexact H6
    isplitl [H10]; · iexact H10
    isplitl [H11]; · iexact H11
    isplitl [H80]; · iexact H80
    isplitl [H81]; · iexact H81
    isplitl [H82]; · iexact H82
    isplitl [H83]; · iexact H83
    isplitl [H90]; · iexact H90
    isplitl [H91]; · iexact H91
    isplitl [H92]; · iexact H92
    iexact H93
  iintro %_ HT
  unfold Trip
  icases HT with ⟨H2, H3, H4, H6, H10, H11, H80, H81, H82, H83, H90, H91, H92, H93⟩
  isplitl [H2]; · iexact H2
  isplitl [H3]; · iexact H3
  isplitl [H4]; · iexact H4
  isplitl [H6]; · iexact H6
  isplitl [H8 H80 H81 H82 H83]
  · iapply (slab_in c arg8 k)
    isplitl [H80]; · iexact H80
    isplitl [H81]; · iexact H81
    isplitl [H82]; · iexact H82
    isplitl [H83]; · iexact H83
    iexact H8
  isplitl [H9 H90 H91 H92 H93]
  · iapply (inv_in c arg9 k)
    isplitl [H90]; · iexact H90
    isplitl [H91]; · iexact H91
    isplitl [H92]; · iexact H92
    isplitl [H93]; · iexact H93
    iexact H9
  isplitl [H10]; · iexact H10
  iexact H11

set_option maxHeartbeats 1000000 in
/-- The body's triple: from the two input blocks at their contents and every other buffer at some contents, the body
    runs to the same. -/
theorem kernelRun (x0 x1 : Vec F S4096x128 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_mxfp8_cast_transpose i arg2 harg2 arg3 harg3 arg4 harg4 arg5 harg5 arg6 harg6 arg7 harg7 arg8 harg8 arg9 harg9 arg10 harg10 arg11 harg11) K := by
  simp only [cc0_mxfp8_cast_transpose_eq_skeleton]; unfold cc0_mxfp8_cast_transpose_skel
  unfold owns
  iintro ⟨⟨%f0, %hf0, H2⟩, ⟨%f1, %hf1, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1
  sl_for (fun _ _ => Inv c arg2 arg3 arg4 arg6 arg8 arg9 arg10 arg11 (harg2.unread x0) (harg3.unread x1)) $$ [H2 H3 H4 H6 H8 H9 H10 H11]
  · intro k acc; exact inv_step c i arg2 harg2 arg3 harg3 arg4 harg4 arg5 harg5 arg6 harg6 arg7 harg7 arg8 harg8 arg9 harg9 arg10 harg10 arg11 harg11 _ _ k
  · unfold Inv
    isplitl [H2]; · iexact H2
    isplitl [H3]; · iexact H3
    isplitl [H4]; · iexists _; iexact H4
    isplitl [H6]; · iexists _; iexact H6
    isplitl [H8]; · iexists _; iexact H8
    isplitl [H9]; · iexists _; iexact H9
    isplitl [H10]; · iexists _; iexact H10
    iexists _; iexact H11
  iintro %acc HI
  unfold Inv
  icases HI with ⟨H2, H3, ⟨%g4, H4⟩, ⟨%g6, H6⟩, ⟨%g8, H8⟩, ⟨%g9, H9⟩, ⟨%g10, H10⟩, ⟨%g11, H11⟩⟩
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Body

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Finset.mem_sdiff.mpr ⟨Pipeline.mem_restRefs_of main_arg0 (by decide) (by decide), by decide⟩)).trans (V_main_arg0 m c)) h

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x4x72x128 .i32 := Memref.whole cc0_scratch0
abbrev scM0_1 : Memref sig .tc .vmem S16x4x8x128 .i32 := Memref.whole cc0_scratch1
abbrev scM0_2 : Memref sig .tc .vmem S8x4096 .i32 := Memref.whole cc0_scratch2
abbrev scM0_3 : Memref sig .tc .vmem S2x128x128 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data -/

/-- The output windows this certificate FORGETS (2, 3, 4, 5): nothing reads what the kernel leaves in them, so nothing
    of it is named (Lib/Pipeline/Dat.lean `Dat.toRForget`). -/
def forgets0 : Fin 6 → Bool := fun w => w.val == 2 || w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of_forget m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.Kernel

end
-- ==== Proof.TripKernelIdeal.lean ====
module

public import proofs.«01_k».proof.Proof.Gen.KernelIdeal.Frame
public import proofs.«01_k».proof.Proof.Gen.KernelIdeal.Loops
public import Idealize.ShloMosaic.Lib.Tactic

/-!
One trip of the kernel's chunk loop, as a triple that names nothing of what the trip computes: it runs from the
buffers at some contents to the buffers at some contents. The four planes of each scratch that the trip works
on are held apart from the rest of the scratch.
-/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Planes

variable (k : Fin k0_t1_loop.trips)

/-- Plane `0` of the shift slab that trip `k` works on. -/
abbrev slab0 (arg8 : Memref sig .tc .vmem S16x4x72x2x128 .bf16) : Memref sig .tc .vmem S72x2x128 .bf16 :=
  (arg8.slice (Rect.unit (s := S16x4x72x2x128) (k0_off2 k) S1x1x72x2x128.size (k0_off2_inb k)) (fun _ => rfl)).squeeze S72x2x128 squeezes_S1x1x72x2x128_S72x2x128
/-- Plane `1` of the shift slab that trip `k` works on. -/
abbrev slab1 (arg8 : Memref sig .tc .vmem S16x4x72x2x128 .bf16) : Memref sig .tc .vmem S72x2x128 .bf16 :=
  (arg8.slice (Rect.unit (s := S16x4x72x2x128) (k0_off6 k) S1x1x72x2x128.size (k0_off6_inb k)) (fun _ => rfl)).squeeze S72x2x128 squeezes_S1x1x72x2x128_S72x2x128
/-- Plane `2` of the shift slab that trip `k` works on. -/
abbrev slab2 (arg8 : Memref sig .tc .vmem S16x4x72x2x128 .bf16) : Memref sig .tc .vmem S72x2x128 .bf16 :=
  (arg8.slice (Rect.unit (s := S16x4x72x2x128) (k0_off11 k) S1x1x72x2x128.size (k0_off11_inb k)) (fun _ => rfl)).squeeze S72x2x128 squeezes_S1x1x72x2x128_S72x2x128
/-- Plane `3` of the shift slab that trip `k` works on. -/
abbrev slab3 (arg8 : Memref sig .tc .vmem S16x4x72x2x128 .bf16) : Memref sig .tc .vmem S72x2x128 .bf16 :=
  (arg8.slice (Rect.unit (s := S16x4x72x2x128) (k0_off15 k) S1x1x72x2x128.size (k0_off15_inb k)) (fun _ => rfl)).squeeze S72x2x128 squeezes_S1x1x72x2x128_S72x2x128
/-- Plane `0` of the multiplier scratch that trip `k` works on. -/
abbrev inv0 (arg9 : Memref sig .tc .vmem S16x4x8x128 .i32) : Memref sig .tc .vmem S8x128 .i32 :=
  (arg9.slice (Rect.unit (s := S16x4x8x128) (k0_off4 k) S1x1x8x128.size (k0_off4_inb k)) (fun _ => rfl)).squeeze S8x128 squeezes_S1x1x8x128_S8x128
/-- Plane `1` of the multiplier scratch that trip `k` works on. -/
abbrev inv1 (arg9 : Memref sig .tc .vmem S16x4x8x128 .i32) : Memref sig .tc .vmem S8x128 .i32 :=
  (arg9.slice (Rect.unit (s := S16x4x8x128) (k0_off8 k) S1x1x8x128.size (k0_off8_inb k)) (fun _ => rfl)).squeeze S8x128 squeezes_S1x1x8x128_S8x128
/-- Plane `2` of the multiplier scratch that trip `k` works on. -/
abbrev inv2 (arg9 : Memref sig .tc .vmem S16x4x8x128 .i32) : Memref sig .tc .vmem S8x128 .i32 :=
  (arg9.slice (Rect.unit (s := S16x4x8x128) (k0_off13 k) S1x1x8x128.size (k0_off13_inb k)) (fun _ => rfl)).squeeze S8x128 squeezes_S1x1x8x128_S8x128
/-- Plane `3` of the multiplier scratch that trip `k` works on. -/
abbrev inv3 (arg9 : Memref sig .tc .vmem S16x4x8x128 .i32) : Memref sig .tc .vmem S8x128 .i32 :=
  (arg9.slice (Rect.unit (s := S16x4x8x128) (k0_off17 k) S1x1x8x128.size (k0_off17_inb k)) (fun _ => rfl)).squeeze S8x128 squeezes_S1x1x8x128_S8x128

end Planes

section Trip

variable (c : Dev nD) (i : grid0.Coords)
  (arg2 : Memref sig .tc .vmem S4096x128 .bf16) (harg2 : arg2.IsWhole) (arg3 : Memref sig .tc .vmem S4096x128 .bf16) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (arg8 : Memref sig .tc .vmem S16x4x72x2x128 .bf16) (harg8 : arg8.IsWhole) (arg9 : Memref sig .tc .vmem S16x4x8x128 .i32) (harg9 : arg9.IsWhole) (arg10 : Memref sig .tc .vmem S8x4096 .i32) (harg10 : arg10.IsWhole) (arg11 : Memref sig .tc .vmem S2x128x128 .i32) (harg11 : arg11.IsWhole)

/-- A buffer held whole at some contents. -/
abbrev Held {s : Shape} {e : EltTy} (a : Memref sig .tc .vmem s e) : sProp 𝕄 :=
  iprop(∃ f : Buf (Elt F) (a.view.loc (c : Thread nD τ)), a.view.loc (c : Thread nD τ) ↦[a.view.set]{fullShare} f)

/-- What one trip of the chunk loop holds, before and after: the two input blocks at their contents, the
    buffers it writes at some contents. -/
def Trip (k : Fin k0_t1_loop.trips) (X0 : Buf (Elt F) (arg2.view.loc (c : Thread nD τ))) (X1 : Buf (Elt F) (arg3.view.loc (c : Thread nD τ))) : sProp 𝕄 :=
  iprop((arg2.view.loc (c : Thread nD τ) ↦[arg2.view.set]{fullShare} X0) ∗ (arg3.view.loc (c : Thread nD τ) ↦[arg3.view.set]{fullShare} X1)
    ∗ Held c arg4 ∗ Held c arg6 ∗ Held c arg10 ∗ Held c arg11
    ∗ Held c (slab0 k arg8) ∗ Held c (slab1 k arg8) ∗ Held c (slab2 k arg8) ∗ Held c (slab3 k arg8)
    ∗ Held c (inv0 k arg9) ∗ Held c (inv1 k arg9) ∗ Held c (inv2 k arg9) ∗ Held c (inv3 k arg9))

-- the body's term is long
set_option sl_exec.squeezeSlice true in
set_option sl_exec.stridedRows true in
set_option sl_exec.respelt true in
set_option maxHeartbeats 1000000 in
/-- One trip, its eight planes held by themselves. -/
theorem trip (k : Fin k0_t1_loop.trips) (X0 : Buf (Elt F) (arg2.view.loc (c : Thread nD τ))) (X1 : Buf (Elt F) (arg3.view.loc (c : Thread nD τ))) :
    Trip c arg2 arg3 arg4 arg6 arg8 arg9 arg10 arg11 k X0 X1
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 k ())
        (fun _ => Trip c arg2 arg3 arg4 arg6 arg8 arg9 arg10 arg11 k X0 X1) := by
  unfold Trip
  iintro ⟨H2, H3, ⟨%f4, H4⟩, ⟨%f6, H6⟩, ⟨%f10, H10⟩, ⟨%f11, H11⟩, ⟨%f8_0, H8_0⟩, ⟨%f8_1, H8_1⟩, ⟨%f8_2, H8_2⟩, ⟨%f8_3, H8_3⟩, ⟨%f9_0, H9_0⟩, ⟨%f9_1, H9_1⟩, ⟨%f9_2, H9_2⟩, ⟨%f9_3, H9_3⟩⟩
  sl_unfold [k0_t1_body]
  sl_exec_parts
  sl_step
  isplitl [H2]; · iexact H2
  isplitl [H3]; · iexact H3
  isplitl [H4]; · iexists _; iexact H4
  isplitl [H6]; · iexists _; iexact H6
  isplitl [H10]; · iexists _; iexact H10
  isplitl [H11]; · iexists _; iexact H11
  isplitl [H8_0]; · iexists _; iexact H8_0
  isplitl [H8_1]; · iexists _; iexact H8_1
  isplitl [H8_2]; · iexists _; iexact H8_2
  isplitl [H8_3]; · iexists _; iexact H8_3
  isplitl [H9_0]; · iexists _; iexact H9_0
  isplitl [H9_1]; · iexists _; iexact H9_1
  isplitl [H9_2]; · iexists _; iexact H9_2
  iexists _; iexact H9_3

end Trip

end Cert.Proof.KernelIdeal

end
-- ==== Proof.FrameKernelIdeal.lean ====
module

public import proofs.«01_k».proof.Proof.TripKernelIdeal
public import proofs.«01_k».proof.Proof.Slots
public import Idealize.ShloMosaic.Lib.Claim

/-!
The frame of `KernelIdeal`: every run ends with the argument unchanged and every semaphore counter at zero. The chunk loop
runs by an invariant that names the two input blocks only; the outputs' contents are stated nowhere.
-/

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Body

variable (c : Dev nD) (i : grid0.Coords)

/-- The four planes trip `k` works on, cut out of their scratch, -/
theorem slab_out (arg8 : Memref sig .tc .vmem S16x4x72x2x128 .bf16) (k : Fin k0_t1_loop.trips) :
    Held c arg8 ⊢ iprop(Held (F := F) c (slab0 k arg8) ∗ Held (F := F) c (slab1 k arg8) ∗ Held (F := F) c (slab2 k arg8) ∗ Held (F := F) c (slab3 k arg8) ∗ iprop(∃ f : Buf (Elt F) (arg8.view.loc (c : Thread nD τ)), arg8.view.loc (c : Thread nD τ) ↦[(((arg8.view.set \ (slab0 k arg8).view.set) \ (slab1 k arg8).view.set) \ (slab2 k arg8).view.set) \ (slab3 k arg8).view.set]{fullShare} f)) :=
  four_out (window_subset _ _ _ _ _) (window_subset _ _ _ _ _) (window_subset _ _ _ _ _) (window_subset _ _ _ _ _)
    (window_disjoint arg8 _ _ (fun _ => rfl) (fun _ => rfl) _ _ _ 1 (by rw [k0_off2_eq, k0_off6_eq]; exact (by decide : 0 + 1 ≤ 1) : k0_off2 k 1 + S1x1x72x2x128.size 1 ≤ k0_off6 k 1))
    (window_disjoint arg8 _ _ (fun _ => rfl) (fun _ => rfl) _ _ _ 1 (by rw [k0_off2_eq, k0_off11_eq]; exact (by decide : 0 + 1 ≤ 2) : k0_off2 k 1 + S1x1x72x2x128.size 1 ≤ k0_off11 k 1))
    (window_disjoint arg8 _ _ (fun _ => rfl) (fun _ => rfl) _ _ _ 1 (by rw [k0_off2_eq, k0_off15_eq]; exact (by decide : 0 + 1 ≤ 3) : k0_off2 k 1 + S1x1x72x2x128.size 1 ≤ k0_off15 k 1))
    (window_disjoint arg8 _ _ (fun _ => rfl) (fun _ => rfl) _ _ _ 1 (by rw [k0_off6_eq, k0_off11_eq]; exact (by decide : 1 + 1 ≤ 2) : k0_off6 k 1 + S1x1x72x2x128.size 1 ≤ k0_off11 k 1))
    (window_disjoint arg8 _ _ (fun _ => rfl) (fun _ => rfl) _ _ _ 1 (by rw [k0_off6_eq, k0_off15_eq]; exact (by decide : 1 + 1 ≤ 3) : k0_off6 k 1 + S1x1x72x2x128.size 1 ≤ k0_off15 k 1))
    (window_disjoint arg8 _ _ (fun _ => rfl) (fun _ => rfl) _ _ _ 1 (by rw [k0_off11_eq, k0_off15_eq]; exact (by decide : 2 + 1 ≤ 3) : k0_off11 k 1 + S1x1x72x2x128.size 1 ≤ k0_off15 k 1))

/-- and put back. -/
theorem slab_in (arg8 : Memref sig .tc .vmem S16x4x72x2x128 .bf16) (k : Fin k0_t1_loop.trips) :
    iprop(Held (F := F) c (slab0 k arg8) ∗ Held (F := F) c (slab1 k arg8) ∗ Held (F := F) c (slab2 k arg8) ∗ Held (F := F) c (slab3 k arg8) ∗ iprop(∃ f : Buf (Elt F) (arg8.view.loc (c : Thread nD τ)), arg8.view.loc (c : Thread nD τ) ↦[(((arg8.view.set \ (slab0 k arg8).view.set) \ (slab1 k arg8).view.set) \ (slab2 k arg8).view.set) \ (slab3 k arg8).view.set]{fullShare} f)) ⊢ Held c arg8 :=
  four_in (window_subset _ _ _ _ _) (window_subset _ _ _ _ _) (window_subset _ _ _ _ _) (window_subset _ _ _ _ _)
    (window_disjoint arg8 _ _ (fun _ => rfl) (fun _ => rfl) _ _ _ 1 (by rw [k0_off2_eq, k0_off6_eq]; exact (by decide : 0 + 1 ≤ 1) : k0_off2 k 1 + S1x1x72x2x128.size 1 ≤ k0_off6 k 1))
    (window_disjoint arg8 _ _ (fun _ => rfl) (fun _ => rfl) _ _ _ 1 (by rw [k0_off2_eq, k0_off11_eq]; exact (by decide : 0 + 1 ≤ 2) : k0_off2 k 1 + S1x1x72x2x128.size 1 ≤ k0_off11 k 1))
    (window_disjoint arg8 _ _ (fun _ => rfl) (fun _ => rfl) _ _ _ 1 (by rw [k0_off2_eq, k0_off15_eq]; exact (by decide : 0 + 1 ≤ 3) : k0_off2 k 1 + S1x1x72x2x128.size 1 ≤ k0_off15 k 1))
    (window_disjoint arg8 _ _ (fun _ => rfl) (fun _ => rfl) _ _ _ 1 (by rw [k0_off6_eq, k0_off11_eq]; exact (by decide : 1 + 1 ≤ 2) : k0_off6 k 1 + S1x1x72x2x128.size 1 ≤ k0_off11 k 1))
    (window_disjoint arg8 _ _ (fun _ => rfl) (fun _ => rfl) _ _ _ 1 (by rw [k0_off6_eq, k0_off15_eq]; exact (by decide : 1 + 1 ≤ 3) : k0_off6 k 1 + S1x1x72x2x128.size 1 ≤ k0_off15 k 1))
    (window_disjoint arg8 _ _ (fun _ => rfl) (fun _ => rfl) _ _ _ 1 (by rw [k0_off11_eq, k0_off15_eq]; exact (by decide : 2 + 1 ≤ 3) : k0_off11 k 1 + S1x1x72x2x128.size 1 ≤ k0_off15 k 1))

/-- The four planes trip `k` works on, cut out of their scratch, -/
theorem inv_out (arg9 : Memref sig .tc .vmem S16x4x8x128 .i32) (k : Fin k0_t1_loop.trips) :
    Held c arg9 ⊢ iprop(Held (F := F) c (inv0 k arg9) ∗ Held (F := F) c (inv1 k arg9) ∗ Held (F := F) c (inv2 k arg9) ∗ Held (F := F) c (inv3 k arg9) ∗ iprop(∃ f : Buf (Elt F) (arg9.view.loc (c : Thread nD τ)), arg9.view.loc (c : Thread nD τ) ↦[(((arg9.view.set \ (inv0 k arg9).view.set) \ (inv1 k arg9).view.set) \ (inv2 k arg9).view.set) \ (inv3 k arg9).view.set]{fullShare} f)) :=
  four_out (window_subset _ _ _ _ _) (window_subset _ _ _ _ _) (window_subset _ _ _ _ _) (window_subset _ _ _ _ _)
    (window_disjoint arg9 _ _ (fun _ => rfl) (fun _ => rfl) _ _ _ 1 (by rw [k0_off4_eq, k0_off8_eq]; exact (by decide : 0 + 1 ≤ 1) : k0_off4 k 1 + S1x1x8x128.size 1 ≤ k0_off8 k 1))
    (window_disjoint arg9 _ _ (fun _ => rfl) (fun _ => rfl) _ _ _ 1 (by rw [k0_off4_eq, k0_off13_eq]; exact (by decide : 0 + 1 ≤ 2) : k0_off4 k 1 + S1x1x8x128.size 1 ≤ k0_off13 k 1))
    (window_disjoint arg9 _ _ (fun _ => rfl) (fun _ => rfl) _ _ _ 1 (by rw [k0_off4_eq, k0_off17_eq]; exact (by decide : 0 + 1 ≤ 3) : k0_off4 k 1 + S1x1x8x128.size 1 ≤ k0_off17 k 1))
    (window_disjoint arg9 _ _ (fun _ => rfl) (fun _ => rfl) _ _ _ 1 (by rw [k0_off8_eq, k0_off13_eq]; exact (by decide : 1 + 1 ≤ 2) : k0_off8 k 1 + S1x1x8x128.size 1 ≤ k0_off13 k 1))
    (window_disjoint arg9 _ _ (fun _ => rfl) (fun _ => rfl) _ _ _ 1 (by rw [k0_off8_eq, k0_off17_eq]; exact (by decide : 1 + 1 ≤ 3) : k0_off8 k 1 + S1x1x8x128.size 1 ≤ k0_off17 k 1))
    (window_disjoint arg9 _ _ (fun _ => rfl) (fun _ => rfl) _ _ _ 1 (by rw [k0_off13_eq, k0_off17_eq]; exact (by decide : 2 + 1 ≤ 3) : k0_off13 k 1 + S1x1x8x128.size 1 ≤ k0_off17 k 1))

/-- and put back. -/
theorem inv_in (arg9 : Memref sig .tc .vmem S16x4x8x128 .i32) (k : Fin k0_t1_loop.trips) :
    iprop(Held (F := F) c (inv0 k arg9) ∗ Held (F := F) c (inv1 k arg9) ∗ Held (F := F) c (inv2 k arg9) ∗ Held (F := F) c (inv3 k arg9) ∗ iprop(∃ f : Buf (Elt F) (arg9.view.loc (c : Thread nD τ)), arg9.view.loc (c : Thread nD τ) ↦[(((arg9.view.set \ (inv0 k arg9).view.set) \ (inv1 k arg9).view.set) \ (inv2 k arg9).view.set) \ (inv3 k arg9).view.set]{fullShare} f)) ⊢ Held c arg9 :=
  four_in (window_subset _ _ _ _ _) (window_subset _ _ _ _ _) (window_subset _ _ _ _ _) (window_subset _ _ _ _ _)
    (window_disjoint arg9 _ _ (fun _ => rfl) (fun _ => rfl) _ _ _ 1 (by rw [k0_off4_eq, k0_off8_eq]; exact (by decide : 0 + 1 ≤ 1) : k0_off4 k 1 + S1x1x8x128.size 1 ≤ k0_off8 k 1))
    (window_disjoint arg9 _ _ (fun _ => rfl) (fun _ => rfl) _ _ _ 1 (by rw [k0_off4_eq, k0_off13_eq]; exact (by decide : 0 + 1 ≤ 2) : k0_off4 k 1 + S1x1x8x128.size 1 ≤ k0_off13 k 1))
    (window_disjoint arg9 _ _ (fun _ => rfl) (fun _ => rfl) _ _ _ 1 (by rw [k0_off4_eq, k0_off17_eq]; exact (by decide : 0 + 1 ≤ 3) : k0_off4 k 1 + S1x1x8x128.size 1 ≤ k0_off17 k 1))
    (window_disjoint arg9 _ _ (fun _ => rfl) (fun _ => rfl) _ _ _ 1 (by rw [k0_off8_eq, k0_off13_eq]; exact (by decide : 1 + 1 ≤ 2) : k0_off8 k 1 + S1x1x8x128.size 1 ≤ k0_off13 k 1))
    (window_disjoint arg9 _ _ (fun _ => rfl) (fun _ => rfl) _ _ _ 1 (by rw [k0_off8_eq, k0_off17_eq]; exact (by decide : 1 + 1 ≤ 3) : k0_off8 k 1 + S1x1x8x128.size 1 ≤ k0_off17 k 1))
    (window_disjoint arg9 _ _ (fun _ => rfl) (fun _ => rfl) _ _ _ 1 (by rw [k0_off13_eq, k0_off17_eq]; exact (by decide : 2 + 1 ≤ 3) : k0_off13 k 1 + S1x1x8x128.size 1 ≤ k0_off17 k 1))

variable (arg2 : Memref sig .tc .vmem S4096x128 .bf16) (harg2 : arg2.IsWhole) (arg3 : Memref sig .tc .vmem S4096x128 .bf16) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (arg8 : Memref sig .tc .vmem S16x4x72x2x128 .bf16) (harg8 : arg8.IsWhole) (arg9 : Memref sig .tc .vmem S16x4x8x128 .i32) (harg9 : arg9.IsWhole) (arg10 : Memref sig .tc .vmem S8x4096 .i32) (harg10 : arg10.IsWhole) (arg11 : Memref sig .tc .vmem S2x128x128 .i32) (harg11 : arg11.IsWhole)

/-- What the chunk loop holds before every trip: the two input blocks at their contents, every buffer it writes
    at some contents. -/
def Inv (X0 : Buf (Elt F) (arg2.view.loc (c : Thread nD τ))) (X1 : Buf (Elt F) (arg3.view.loc (c : Thread nD τ))) : sProp 𝕄 :=
  iprop((arg2.view.loc (c : Thread nD τ) ↦[arg2.view.set]{fullShare} X0) ∗ (arg3.view.loc (c : Thread nD τ) ↦[arg3.view.set]{fullShare} X1)
    ∗ Held c arg4 ∗ Held c arg6 ∗ Held c arg8 ∗ Held c arg9 ∗ Held c arg10 ∗ Held c arg11)

theorem inv_step (X0 : Buf (Elt F) (arg2.view.loc (c : Thread nD τ))) (X1 : Buf (Elt F) (arg3.view.loc (c : Thread nD τ))) (k : Fin k0_t1_loop.trips) :
    Inv c arg2 arg3 arg4 arg6 arg8 arg9 arg10 arg11 X0 X1
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 k ())
        (fun _ => Inv c arg2 arg3 arg4 arg6 arg8 arg9 arg10 arg11 X0 X1) := by
  unfold Inv
  iintro ⟨H2, H3, H4, H6, H8, H9, H10, H11⟩
  ihave H8 := (slab_out c arg8 k) $$ H8
  icases H8 with ⟨H80, H81, H82, H83, H8⟩
  ihave H9 := (inv_out c arg9 k) $$ H9
  icases H9 with ⟨H90, H91, H92, H93, H9⟩
  iapply (wp_wand_r Idealize.ShloMosaic.frame (wpE (defs₀ (F := F)) Variants.none (c : Thread nD τ) none) Set.univ)
  isplitl [H2 H3 H4 H6 H10 H11 H80 H81 H82 H83 H90 H91 H92 H93]
  · iapply (trip c i arg2 harg2 arg3 harg3 arg4 harg4 arg5 harg5 arg6 harg6 arg7 harg7 arg8 harg8 arg9 harg9 arg10 harg10 arg11 harg11 k X0 X1)
    unfold Trip
    isplitl [H2]; · iexact H2
    isplitl [H3]; · iexact H3
    isplitl [H4]; · iexact H4
    isplitl [H6]; · iexact H6
    isplitl [H10]; · iexact H10
    isplitl [H11]; · iexact H11
    isplitl [H80]; · iexact H80
    isplitl [H81]; · iexact H81
    isplitl [H82]; · iexact H82
    isplitl [H83]; · iexact H83
    isplitl [H90]; · iexact H90
    isplitl [H91]; · iexact H91
    isplitl [H92]; · iexact H92
    iexact H93
  iintro %_ HT
  unfold Trip
  icases HT with ⟨H2, H3, H4, H6, H10, H11, H80, H81, H82, H83, H90, H91, H92, H93⟩
  isplitl [H2]; · iexact H2
  isplitl [H3]; · iexact H3
  isplitl [H4]; · iexact H4
  isplitl [H6]; · iexact H6
  isplitl [H8 H80 H81 H82 H83]
  · iapply (slab_in c arg8 k)
    isplitl [H80]; · iexact H80
    isplitl [H81]; · iexact H81
    isplitl [H82]; · iexact H82
    isplitl [H83]; · iexact H83
    iexact H8
  isplitl [H9 H90 H91 H92 H93]
  · iapply (inv_in c arg9 k)
    isplitl [H90]; · iexact H90
    isplitl [H91]; · iexact H91
    isplitl [H92]; · iexact H92
    isplitl [H93]; · iexact H93
    iexact H9
  isplitl [H10]; · iexact H10
  iexact H11

set_option maxHeartbeats 1000000 in
/-- The body's triple: from the two input blocks at their contents and every other buffer at some contents, the body
    runs to the same. -/
theorem kernelRun (x0 x1 : Vec F S4096x128 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp frame (wpE (defs₀ (F := F)) Variants.none c none) Set.univ (cc0_mxfp8_cast_transpose i arg2 harg2 arg3 harg3 arg4 harg4 arg5 harg5 arg6 harg6 arg7 harg7 arg8 harg8 arg9 harg9 arg10 harg10 arg11 harg11) K := by
  simp only [cc0_mxfp8_cast_transpose_eq_skeleton]; unfold cc0_mxfp8_cast_transpose_skel
  unfold owns
  iintro ⟨⟨%f0, %hf0, H2⟩, ⟨%f1, %hf1, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  obtain rfl := harg2.eq_unread hf0; obtain rfl := harg3.eq_unread hf1
  sl_for (fun _ _ => Inv c arg2 arg3 arg4 arg6 arg8 arg9 arg10 arg11 (harg2.unread x0) (harg3.unread x1)) $$ [H2 H3 H4 H6 H8 H9 H10 H11]
  · intro k acc; exact inv_step c i arg2 harg2 arg3 harg3 arg4 harg4 arg5 harg5 arg6 harg6 arg7 harg7 arg8 harg8 arg9 harg9 arg10 harg10 arg11 harg11 _ _ k
  · unfold Inv
    isplitl [H2]; · iexact H2
    isplitl [H3]; · iexact H3
    isplitl [H4]; · iexists _; iexact H4
    isplitl [H6]; · iexists _; iexact H6
    isplitl [H8]; · iexists _; iexact H8
    isplitl [H9]; · iexists _; iexact H9
    isplitl [H10]; · iexists _; iexact H10
    iexists _; iexact H11
  iintro %acc HI
  unfold Inv
  icases HI with ⟨H2, H3, ⟨%g4, H4⟩, ⟨%g6, H6⟩, ⟨%g8, H8⟩, ⟨%g9, H9⟩, ⟨%g10, H10⟩, ⟨%g11, H11⟩⟩
  sl_exec
  sl_step
  iapply Hk
  isplitl [H2]
  · iexists _; isplitr; · ipureintro; exact harg2.read_unread _
    iexact H2
  isplitl [H3]
  · iexists _; isplitr; · ipureintro; exact harg3.read_unread _
    iexact H3
  isplitl [H4]
  · iexists _, _; isplitr; swap; · iexact H4
    ipureintro; rfl
  isplitl [H5]
  · iexists _, _; isplitr; swap; · iexact H5
    ipureintro; rfl
  isplitl [H6]
  · iexists _, _; isplitr; swap; · iexact H6
    ipureintro; rfl
  isplitl [H7]
  · iexists _, _; isplitr; swap; · iexact H7
    ipureintro; rfl
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Body

variable (m : (ℓ : Loc nD τ sig) → Buf (Elt F) ℓ) (ρ : Dev nD → PrngReg)

/-- The buffers the lines after the region WRITE, as references: results computed from contents the run does not name
    (an operand the body wrote by its own DMA, or a forgotten output), so nothing is stated of them either. -/
def T0 : Finset (Ref sig .tc) := {main_v2}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- THE FRAME from a frame run: for any proof data whose arrays are the region-entry contents (`hA`), a run to
    Lib/Pipeline/Frame.lean's `RDat.FramePostR` read at the argument arrays — a staged input by the library's
    `RDat.FramePostR.arr_in`, an array no window stages (none is in `T0`) by the post's second clause, each then by `V_…` — is the frame
    claim's post (`Cert.frame_Kernel`, Defs.lean, at any `F`). -/
theorem frame_of_forget (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => ((h c).2 main_arg0 (Finset.mem_sdiff.mpr ⟨Pipeline.mem_restRefs_of main_arg0 (by decide) (by decide), by decide⟩)).trans (V_main_arg0 m c)) h

/-- Each window's current staging memref at point `t`, spelled as the pipeline passes it (`bodyAt0`), and its wholeness. -/
abbrev ms0_0 (t : Fin cfg0.N) : Memref sig .tc .vmem S4096x128 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4096x128 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S4096x256 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x4096 .i8 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4096 .fp8e4m3 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S256x128 .i8 := win0_5.stage (cfg0.slots t 5)
abbrev hs0_5 (t : Fin cfg0.N) : (ms0_5 t).IsWhole := hstage0_5 ((cfg0.slots t 5).cast nbuf0_5)
/-- The scratch operands: whole scoped buffers of the kernel's own, passed beside the windows. -/
abbrev scM0_0 : Memref sig .tc .vmem S16x4x72x2x128 .bf16 := Memref.whole cc0_scratch0
abbrev scM0_1 : Memref sig .tc .vmem S16x4x8x128 .i32 := Memref.whole cc0_scratch1
abbrev scM0_2 : Memref sig .tc .vmem S8x4096 .i32 := Memref.whole cc0_scratch2
abbrev scM0_3 : Memref sig .tc .vmem S2x128x128 .i32 := Memref.whole cc0_scratch3

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d)) ∗ (∃ r, prngReg c r)) := by
  unfold Pipeline.ΦA; rw [scopedRest0_eq]; simp only [scM0_0, scM0_1, scM0_2, scM0_3, owns_whole]; try rfl

/-! ## The pipeline's proof data -/

/-- The output windows this certificate FORGETS (2, 3, 4, 5): nothing reads what the kernel leaves in them, so nothing
    of it is named (Lib/Pipeline/Dat.lean `Dat.toRForget`). -/
def forgets0 : Fin 6 → Bool := fun w => w.val == 2 || w.val == 3 || w.val == 4 || w.val == 5

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register); nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, h⟩ => Pipeline.Dat.unnamed (cfg := cfg0) ⟨2, h⟩ t
    | ⟨3, h⟩ => Pipeline.Dat.unnamed (cfg := cfg0) ⟨3, h⟩ t
    | ⟨4, h⟩ => Pipeline.Dat.unnamed (cfg := cfg0) ⟨4, h⟩ t
    | ⟨5, h⟩ => Pipeline.Dat.unnamed (cfg := cfg0) ⟨5, h⟩ t
  Φ _ := Pipeline.ΦA spec0 c
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ (∃ d, owns (c : Thread nD τ) (ms0_2 t) fullShare d)
    ∗ (∃ d, owns (c : Thread nD τ) (ms0_3 t) fullShare d)
    ∗ (∃ d, owns (c : Thread nD τ) (ms0_4 t) fullShare d)
    ∗ (∃ d, owns (c : Thread nD τ) (ms0_5 t) fullShare d))

set_option maxHeartbeats 800000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (kernelRun c (grid0.coords t) _ _ _ _ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- `θ_run_frame_around_T_forget_shared`'s implicit arguments are found by unifying its conclusion with this one, which takes unfolding plain
-- definitions in a metavariable's type
set_option backward.isDefEq.respectTransparency.types false in
set_option maxHeartbeats 800000 in
/-- THE LAUNCH: `run_main`'s statement, and every semaphore counter of the machine at zero at every final state. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_forget_shared (Q' := _) cfgs (dats m) (0 : Fin 1) launch₀0 defs₀ Variants.none forgets0 T0 m ρ main
    (hbody := fun c => (body_obligation m c).loose) (hq := fun _ _ _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hΦ := fun _ _ => rfl)

/-- At the compiled mesh, for any values, from any memory with zero counters: every weakly fair execution of @main on the
    TensorCores terminates, and every final state has every INPUT array of the pipeline unchanged, nothing stated of the
    FORGOTTEN outputs (windows 2, 3, 4, 5) (Lib/Pipeline/Frame.lean `RDat.FramePostR` over the proof data with those windows
    forgotten, Dat.lean `Dat.toRForget`), and every other unscoped buffer outside `T0` at its region-entry contents. -/
theorem run_main : θ_run defs (onTc (τ := τ) (main (F := F))) (s₀ m ρ) (Pipeline.RDat.FramePostR (cfgs 0) (fun c => (dats m 0 c).toRForget forgets0) T0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  frame_of_forget m ρ (fun c => (dats m 0 c).toRForget forgets0) (A_eq m) (run_main m ρ)

/-- THE FRAME: `Cert.quiescent_KernelIdeal`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0))
      ∧ r.2.sem = fun _ => 0) :=
  θ_run_and (unchanged m ρ) ((θ_run defs _ _).mono (fun _ h => h.2) (run_main_quiescent m ρ))

end Cert.Proof.KernelIdeal

end
-- ==== Proof.Preserves.lean ====
module

public import proofs.«01_k».proof.Defs
public import Idealize.ShloMosaic.Lib.Bf16Pair
public import Idealize.ShloMosaic.Lib.Bf16PairInverse

/-!
The idealised kernel reads pairs of bf16 rows where the kernel handles their 32-bit words. Every such rewriting is an
instance of the library's theorems on bf16 pairs, at the shapes the kernel uses.
-/

@[expose] public section

namespace Cert.Proof

open Idealize.ShloMosaic

theorem preserves : Cert.preserves_Kernel_KernelIdeal :=
  ⟨IdealRules.bf16_pair.bufferStatement _ _, IdealRules.bf16_pair.statement _ _, IdealRules.bf16_pair.statement _ _,
    IdealRules.bf16_pair.statement _ _⟩

end Cert.Proof

end
-- ==== Proof.Quantise.lean ====
module

public import proofs.«01_k».proof.Proof.TripKernelIdeal

/-!
The quantiser of the kernel, written once.

A trip quantises four groups of eight blocks of 32 rows and 128 columns: the columns of the left half, the columns of
the right half, the first 128 rows and the last 128 rows (the last two transposed first). Each group takes the same
steps, which are the definitions of this file: the largest magnitude of each block's columns, gathered through a scratch
array; the bits of that magnitude as a 32-bit float; the scale code; the multiplier `2 ^ (127 - code)`, made as a bit
pattern; and the scaled and clipped values.
-/

@[expose] public section

noncomputable section

namespace Cert.Proof.KernelIdeal

open Cert.KernelIdeal Cert.KernelIdeal.Gen
open Idealize.ShloMosaic Idealize.ShloMosaic.TcCoe Idealize.ShloMosaic.Tactic

variable {F : FTy → Type} [FloatOps F]

/-- The magnitudes of a block, the lower and the upper sixteen rows taken together, two rows to a word. -/
def pairMax (z : FVec F S32x128 .bf16) : Vec F S8x2x128 .bf16 :=
  let a := absf z
  let m := maximumf (extractStridedSlice S16x128 ![0, 0] a slices_S32x128_o0_0_S16x128)
    (extractStridedSlice S16x128 ![16, 0] a slices_S32x128_o16_0_S16x128)
  interleaveRows S8x2x128 (shapeCast S8x1x128 (rowsOfParity 0 S8x128 m bitcasts_S16x128_w16_S8x128_w32) shapeCasts_S8x128_S8x1x128)
    (shapeCast S8x1x128 (rowsOfParity 1 S8x128 m bitcasts_S16x128_w16_S8x128_w32) shapeCasts_S8x128_S8x1x128)
    bitcasts_S8x2x128_w16_S8x1x128_w32

/-- A tile of the scratch array as sixteen rows of 16-bit floats. -/
def tileRows (r : Vec F S8x2x128 .bf16) : FVec F S16x128 .bf16 :=
  interleaveRows S16x128 (shapeCast S8x128 (rowsOfParity 0 S8x1x128 r bitcasts_S8x2x128_w16_S8x1x128_w32) shapeCasts_S8x1x128_S8x128)
    (shapeCast S8x128 (rowsOfParity 1 S8x1x128 r bitcasts_S8x2x128_w16_S8x1x128_w32) shapeCasts_S8x1x128_S8x128)
    bitcasts_S16x128_w16_S8x128_w32

/-- The largest of eight tiles, and of the two rows of each pair. -/
def treeMax (r0 r1 r2 r3 r4 r5 r6 r7 : Vec F S8x2x128 .bf16) : FVec F S8x128 .f32 :=
  let a := maximumf (tileRows r0) (tileRows r1)
  let b := maximumf (tileRows r2) (tileRows r3)
  let c := maximumf a b
  let d := maximumf (tileRows r4) (tileRows r5)
  let e := maximumf (tileRows r6) (tileRows r7)
  let m := maximumf c (maximumf d e)
  maximumf (extf .f32 (rowsOfParity 0 S8x128 m bitcasts_S16x128_w16_S8x128_w32) bitsLt_bf16_f32)
    (extf .f32 (rowsOfParity 1 S8x128 m bitcasts_S16x128_w16_S8x128_w32) bitsLt_bf16_f32)

/-- One step down: where the value is at least the threshold, scale it and add `d` to the exponent. -/
def down (thr scl d : BitVec 32) (p : FVec F S8x128 .f32 × IVec S8x128 32) : FVec F S8x128 .f32 × IVec S8x128 32 :=
  (select (cmpf .oge p.1 (broadcast S8x128 (Scalar.ofBits .f32 thr))) (mulf p.1 (broadcast S8x128 (Scalar.ofBits .f32 scl))) p.1,
    select (cmpf .oge p.1 (broadcast S8x128 (Scalar.ofBits .f32 thr))) (addi p.2 (broadcast S8x128 d)) p.2)

/-- One step up: where the value is below the threshold, scale it and take `d` from the exponent. -/
def up (thr scl d : BitVec 32) (p : FVec F S8x128 .f32 × IVec S8x128 32) : FVec F S8x128 .f32 × IVec S8x128 32 :=
  (select (cmpf .olt p.1 (broadcast S8x128 (Scalar.ofBits .f32 thr))) (mulf p.1 (broadcast S8x128 (Scalar.ofBits .f32 scl))) p.1,
    select (cmpf .olt p.1 (broadcast S8x128 (Scalar.ofBits .f32 thr))) (subi p.2 (broadcast S8x128 d)) p.2)

/-- The value brought between one and two, with its biased exponent. -/
def normal (a : FVec F S8x128 .f32) : FVec F S8x128 .f32 × IVec S8x128 32 :=
  up 0x3F800000#32 0x40000000#32 1#32 <| up 0x3F000000#32 0x40800000#32 2#32 <| up 0x3E000000#32 0x41800000#32 4#32 <|
  up 0x3C000000#32 0x43800000#32 8#32 <| up 0x38000000#32 0x47800000#32 16#32 <| up 0x30000000#32 0x4F800000#32 32#32 <|
  up 0x20000000#32 0x5F800000#32 64#32 <|
  down 0x40000000#32 0x3F000000#32 1#32 <| down 0x40800000#32 0x3E800000#32 2#32 <| down 0x41800000#32 0x3D800000#32 4#32 <|
  down 0x43800000#32 0x3B800000#32 8#32 <| down 0x47800000#32 0x37800000#32 16#32 <| down 0x4F800000#32 0x2F800000#32 32#32 <|
  down 0x5F800000#32 0x1F800000#32 64#32 (a, broadcast S8x128 127#32)

/-- The bits made of the normalised value. -/
def rawBits (a : FVec F S8x128 .f32) : IVec S8x128 32 :=
  addi (shli (normal a).2 (broadcast S8x128 23#32))
    (fptosi 32 (mulf (subf (normal a).1 (broadcast S8x128 (Scalar.ofBits .f32 0x3F800000#32)))
      (broadcast S8x128 (Scalar.ofBits .f32 0x4B000000#32))))

/-- The bits of a magnitude: zero for a subnormal, those of infinity above the largest float. -/
def bitsOf (a : FVec F S8x128 .f32) : IVec S8x128 32 :=
  select (cmpf .olt a (broadcast S8x128 (Scalar.ofBits .f32 0x00800000#32))) (broadcast S8x128 0#32)
    (select (cmpf .ole a (broadcast S8x128 (Scalar.ofBits .f32 0x7F7FFFFF#32))) (rawBits a) (broadcast S8x128 2139095040#32))

/-- The scale code of a magnitude. -/
def codeOf (a : FVec F S8x128 .f32) : IVec S8x128 32 :=
  select (andi (cmpi .sge (bitsOf a) (broadcast S8x128 81788928#32)) (cmpi .slt (bitsOf a) (broadcast S8x128 2139095040#32)))
    (subi (shrui (addi (bitsOf a) (broadcast S8x128 2097152#32)) (broadcast S8x128 23#32)) (broadcast S8x128 8#32))
    (broadcast S8x128 127#32)

/-- The multiplier's bit pattern, twice in each word. -/
def invOf (a : FVec F S8x128 .f32) : IVec S1x1x8x128 32 :=
  let i := shli (subi (broadcast S8x128 254#32) (codeOf a)) (broadcast S8x128 7#32)
  shapeCast S1x1x8x128 (ori i (shli i (broadcast S8x128 16#32))) shapeCasts_S8x128_S1x1x8x128

/-- A block scaled by a row of multipliers, clipped and cast. -/
def scaled (z : FVec F S32x128 .bf16) (w : Vec F S8x128 .i32) : FVec F S32x128 .fp8e4m3 :=
  let s := bitcastToFloat .bf16 (bitcast S16x128 16 w bitcasts_S8x128_w32_S16x128_w16)
  let y := mulf z (concatenate S32x128 0 [⟨S16x128, s⟩, ⟨S16x128, s⟩] concatenates_S16x128_S16x128_S32x128_d0)
  truncf .fp8e4m3 (minimumf (broadcast S32x128 (Scalar.truncf .bf16 bitsLt_bf16_f32 (Scalar.ofBits .f32 0x43E00000#32)))
    (maximumf (broadcast S32x128 (Scalar.truncf .bf16 bitsLt_bf16_f32 (Scalar.ofBits .f32 0xC3E00000#32))) y)) bitsLt_fp8e4m3_bf16

/-- Eight blocks under one another. -/
def stack8 (q0 q1 q2 q3 q4 q5 q6 q7 : FVec F S32x128 .fp8e4m3) : FVec F S256x128 .fp8e4m3 :=
  concatenate S256x128 0 [⟨S32x128, q0⟩, ⟨S32x128, q1⟩, ⟨S32x128, q2⟩, ⟨S32x128, q3⟩, ⟨S32x128, q4⟩, ⟨S32x128, q5⟩, ⟨S32x128, q6⟩, ⟨S32x128, q7⟩]
    concatenates_S32x128_S32x128_S32x128_S32x128_S32x128_S32x128_S32x128_S32x128_S256x128_d0

/-- The eight stores into a scratch array: block `b` goes to every ninth row from row `b` on. -/
def slabPieces (z0 z1 z2 z3 z4 z5 z6 z7 : FVec F S32x128 .bf16) : List (View.Piece (Elt F) S72x2x128 .bf16) :=
  [⟨{ off := ![7, 0, 0], size := S8x2x128.size, stride := ![9, 1, 1], inb := inb_S72x2x128_S8x2x128_7_0_0_s_9_1_1, stride_pos := spos_9_1_1 }, pairMax z7⟩,
    ⟨{ off := ![6, 0, 0], size := S8x2x128.size, stride := ![9, 1, 1], inb := inb_S72x2x128_S8x2x128_6_0_0_s_9_1_1, stride_pos := spos_9_1_1 }, pairMax z6⟩,
    ⟨{ off := ![5, 0, 0], size := S8x2x128.size, stride := ![9, 1, 1], inb := inb_S72x2x128_S8x2x128_5_0_0_s_9_1_1, stride_pos := spos_9_1_1 }, pairMax z5⟩,
    ⟨{ off := ![4, 0, 0], size := S8x2x128.size, stride := ![9, 1, 1], inb := inb_S72x2x128_S8x2x128_4_0_0_s_9_1_1, stride_pos := spos_9_1_1 }, pairMax z4⟩,
    ⟨{ off := ![3, 0, 0], size := S8x2x128.size, stride := ![9, 1, 1], inb := inb_S72x2x128_S8x2x128_3_0_0_s_9_1_1, stride_pos := spos_9_1_1 }, pairMax z3⟩,
    ⟨{ off := ![2, 0, 0], size := S8x2x128.size, stride := ![9, 1, 1], inb := inb_S72x2x128_S8x2x128_2_0_0_s_9_1_1, stride_pos := spos_9_1_1 }, pairMax z2⟩,
    ⟨{ off := ![1, 0, 0], size := S8x2x128.size, stride := ![9, 1, 1], inb := inb_S72x2x128_S8x2x128_1_0_0_s_9_1_1, stride_pos := spos_9_1_1 }, pairMax z1⟩,
    ⟨{ off := ![0, 0, 0], size := S8x2x128.size, stride := ![9, 1, 1], inb := inb_S72x2x128_S8x2x128_0_0_0_s_9_1_1, stride_pos := spos_9_1_1 }, pairMax z0⟩]

/-- The largest magnitude of every column of eight blocks, through the scratch array. -/
def slabMax {sig : RefSig} {κ : Kind} {sp : Space} (v : View sig κ sp S72x2x128 .bf16) (z0 z1 z2 z3 z4 z5 z6 z7 : FVec F S32x128 .bf16) :
    FVec F S8x128 .f32 :=
  let L := slabPieces z0 z1 z2 z3 z4 z5 z6 z7
  treeMax (v.readCov L (Rect.unit (s := S72x2x128) ![0, 0, 0] S8x2x128.size inb_S72x2x128_S8x2x128_0_0_0).toLoadRect)
    (v.readCov L (Rect.unit (s := S72x2x128) ![9, 0, 0] S8x2x128.size inb_S72x2x128_S8x2x128_9_0_0).toLoadRect)
    (v.readCov L (Rect.unit (s := S72x2x128) ![18, 0, 0] S8x2x128.size inb_S72x2x128_S8x2x128_18_0_0).toLoadRect)
    (v.readCov L (Rect.unit (s := S72x2x128) ![27, 0, 0] S8x2x128.size inb_S72x2x128_S8x2x128_27_0_0).toLoadRect)
    (v.readCov L (Rect.unit (s := S72x2x128) ![36, 0, 0] S8x2x128.size inb_S72x2x128_S8x2x128_36_0_0).toLoadRect)
    (v.readCov L (Rect.unit (s := S72x2x128) ![45, 0, 0] S8x2x128.size inb_S72x2x128_S8x2x128_45_0_0).toLoadRect)
    (v.readCov L (Rect.unit (s := S72x2x128) ![54, 0, 0] S8x2x128.size inb_S72x2x128_S8x2x128_54_0_0).toLoadRect)
    (v.readCov L (Rect.unit (s := S72x2x128) ![63, 0, 0] S8x2x128.size inb_S72x2x128_S8x2x128_63_0_0).toLoadRect)

/-- Eight blocks scaled by the rows of multipliers read from a scratch array, one row spread over eight. -/
def quantised {sig : RefSig} {κ : Kind} {sp : Space} (v : View sig κ sp S8x128 .i32) (f : v.ty.Contents (Elt F))
    (z0 z1 z2 z3 z4 z5 z6 z7 : FVec F S32x128 .bf16) : FVec F S256x128 .fp8e4m3 :=
  stack8 (scaled z0 (v.readAt (Elt F) { off := ![0, 0], size := S8x128.size, stride := ![0, 1], inb := inb_S8x128_S8x128_0_0_s_0_1 } f))
    (scaled z1 (v.readAt (Elt F) { off := ![1, 0], size := S8x128.size, stride := ![0, 1], inb := inb_S8x128_S8x128_1_0_s_0_1 } f))
    (scaled z2 (v.readAt (Elt F) { off := ![2, 0], size := S8x128.size, stride := ![0, 1], inb := inb_S8x128_S8x128_2_0_s_0_1 } f))
    (scaled z3 (v.readAt (Elt F) { off := ![3, 0], size := S8x128.size, stride := ![0, 1], inb := inb_S8x128_S8x128_3_0_s_0_1 } f))
    (scaled z4 (v.readAt (Elt F) { off := ![4, 0], size := S8x128.size, stride := ![0, 1], inb := inb_S8x128_S8x128_4_0_s_0_1 } f))
    (scaled z5 (v.readAt (Elt F) { off := ![5, 0], size := S8x128.size, stride := ![0, 1], inb := inb_S8x128_S8x128_5_0_s_0_1 } f))
    (scaled z6 (v.readAt (Elt F) { off := ![6, 0], size := S8x128.size, stride := ![0, 1], inb := inb_S8x128_S8x128_6_0_s_0_1 } f))
    (scaled z7 (v.readAt (Elt F) { off := ![7, 0], size := S8x128.size, stride := ![0, 1], inb := inb_S8x128_S8x128_7_0_s_0_1 } f))

/-- Two stacks side by side, transposed by a product with the identity matrix. -/
def swapped (p q : FVec F S256x128 .fp8e4m3) : FVec F S256x256 .fp8e4m3 :=
  truncf .fp8e4m3 (matmul dot_S256x256_S256x256_S256x256_1_1_0_0_n_n none (k0_pay1 (F := F))
    (concatenate S256x256 1 [⟨S256x128, p⟩, ⟨S256x128, q⟩] concatenates_S256x128_S256x128_S256x256_d1)
    (constant S256x256 .f32 0x00000000#32)) bitsLt_fp8e4m3_f32

end Cert.Proof.KernelIdeal
-- ==== Proof.TripValue.lean ====
module

public import proofs.«01_k».proof.Proof.TripKernelIdeal

/-!
One trip of the chunk loop again, naming the pieces it stores into the two code blocks and into the two scratch arrays
of scale codes, as functions of the two input blocks.
-/

@[expose] public section

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (UR sig nD τ) ℕ

section Trip

variable (c : Dev nD) (i : grid0.Coords)
  (arg2 : Memref sig .tc .vmem S4096x128 .bf16) (harg2 : arg2.IsWhole) (arg3 : Memref sig .tc .vmem S4096x128 .bf16) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (arg8 : Memref sig .tc .vmem S16x4x72x2x128 .bf16) (harg8 : arg8.IsWhole) (arg9 : Memref sig .tc .vmem S16x4x8x128 .i32) (harg9 : arg9.IsWhole) (arg10 : Memref sig .tc .vmem S8x4096 .i32) (harg10 : arg10.IsWhole) (arg11 : Memref sig .tc .vmem S2x128x128 .i32) (harg11 : arg11.IsWhole)

/-- What a run of stores leaves: the pieces, last first. -/
abbrev Pieces (s : Shape) (e : EltTy) := List (View.Piece (Elt F) s e)

set_option sl_exec.squeezeSlice true in
set_option sl_exec.stridedRows true in
set_option sl_exec.respelt true in
set_option maxHeartbeats 1000000 in
/-- The trip's triple, the stored pieces found by the run. -/
def tripV (k : Fin k0_t1_loop.trips) (X0 : Buf (Elt F) (arg2.view.loc (c : Thread nD τ))) (X1 : Buf (Elt F) (arg3.view.loc (c : Thread nD τ))) (g0 g1 g2 g3 : Buf (Elt F) (arg9.view.loc (c : Thread nD τ))) :
    Σ' (L4 : Pieces (F := F) S4096x256 .fp8e4m3), Σ' (L6 : Pieces (F := F) S256x4096 .fp8e4m3), Σ' (L10 : Pieces (F := F) S8x4096 .i32), { L11 : Pieces (F := F) S2x128x128 .i32 //
      ∀ (f4 : Buf (Elt F) (arg4.view.loc (c : Thread nD τ))) (f6 : Buf (Elt F) (arg6.view.loc (c : Thread nD τ))) (f10 : Buf (Elt F) (arg10.view.loc (c : Thread nD τ))) (f11 : Buf (Elt F) (arg11.view.loc (c : Thread nD τ))),
      iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11)
        ∗ Held c (slab0 k arg8) ∗ Held c (slab1 k arg8) ∗ Held c (slab2 k arg8) ∗ Held c (slab3 k arg8) ∗ ((inv0 k arg9).view.loc (c : Thread nD τ) ↦[(inv0 k arg9).view.set]{fullShare} g0) ∗ ((inv1 k arg9).view.loc (c : Thread nD τ) ↦[(inv1 k arg9).view.set]{fullShare} g1) ∗ ((inv2 k arg9).view.loc (c : Thread nD τ) ↦[(inv2 k arg9).view.set]{fullShare} g2) ∗ ((inv3 k arg9).view.loc (c : Thread nD τ) ↦[(inv3 k arg9).view.set]{fullShare} g3))
      ⊢ wp frame (wpE (defs₀ (F := F)) Variants.none (c : Thread nD τ) none) Set.univ (k0_t1_body (F := F) i arg2 harg2 arg3 harg3 arg4 harg4 arg5 harg5 arg6 harg6 arg7 harg7 arg8 harg8 arg9 harg9 arg10 harg10 arg11 harg11 k ())
        (fun _ => iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} (arg4.view.writes (Elt F) f4 L4)) ∗ (arg6.view.loc (c : Thread nD τ) ↦[arg6.view.set]{fullShare} (arg6.view.writes (Elt F) f6 L6)) ∗ (arg10.view.loc (c : Thread nD τ) ↦[arg10.view.set]{fullShare} (arg10.view.writes (Elt F) f10 L10)) ∗ (arg11.view.loc (c : Thread nD τ) ↦[arg11.view.set]{fullShare} (arg11.view.writes (Elt F) f11 L11))
        ∗ Held c (slab0 k arg8) ∗ Held c (slab1 k arg8) ∗ Held c (slab2 k arg8) ∗ Held c (slab3 k arg8) ∗ Held c (inv0 k arg9) ∗ Held c (inv1 k arg9) ∗ Held c (inv2 k arg9) ∗ Held c (inv3 k arg9))) } := by
  refine ⟨?_, ?_, ?_, ?_, fun f4 f6 f10 f11 => ?run⟩
  case run =>
    iintro ⟨H2, H3, H4, H6, H10, H11, ⟨%f8_0, H8_0⟩, ⟨%f8_1, H8_1⟩, ⟨%f8_2, H8_2⟩, ⟨%f8_3, H8_3⟩, H9_0, H9_1, H9_2, H9_3⟩
    sl_unfold [k0_t1_body]
    sl_exec_parts
    sl_step
    isplitl [H2]; · iexact H2
    isplitl [H3]; · iexact H3
    isplitl [H4]; · iexact H4
    isplitl [H6]; · iexact H6
    isplitl [H10]; · iexact H10
    isplitl [H11]; · iexact H11
    isplitl [H8_0]; · iexists _; iexact H8_0
    isplitl [H8_1]; · iexists _; iexact H8_1
    isplitl [H8_2]; · iexists _; iexact H8_2
    isplitl [H8_3]; · iexists _; iexact H8_3
    isplitl [H9_0]; · iexists _; iexact H9_0
    isplitl [H9_1]; · iexists _; iexact H9_1
    isplitl [H9_2]; · iexists _; iexact H9_2
    iexists _; iexact H9_3

end Trip

end Cert.Proof.KernelIdeal

end
-- ==== Proof.Planes.lean ====
module

public import proofs.«01_k».proof.Proof.Quantise
public import proofs.«01_k».proof.Proof.TripValue

/-!
The four groups of a trip are four uses of the one quantiser: each stored value of the trip is the quantiser's, at that
group's eight blocks.
-/

@[expose] public section

noncomputable section

namespace Cert.Proof.KernelIdeal

open Cert.KernelIdeal Cert.KernelIdeal.Gen
open Idealize.ShloMosaic Idealize.ShloMosaic.TcCoe Idealize.ShloMosaic.Tactic
open tripV.sl

variable {F : FTy → Type} [FloatOps F]
variable (c : Dev nD) (arg2 : Memref sig .tc .vmem S4096x128 .bf16) (arg3 : Memref sig .tc .vmem S4096x128 .bf16)
  (arg8 : Memref sig .tc .vmem S16x4x72x2x128 .bf16) (arg9 : Memref sig .tc .vmem S16x4x8x128 .i32)
  (k : Fin k0_t1_loop.trips) (X0 : Buf (Elt F) (arg2.view.loc (c : Thread nD τ))) (X1 : Buf (Elt F) (arg3.view.loc (c : Thread nD τ)))
  (g0 g1 g2 g3 : Buf (Elt F) (arg9.view.loc (c : Thread nD τ)))

/-- Group 0: the largest magnitudes. -/
theorem amax0 : r_22 c arg2 arg8 k X0 =
    slabMax (slab0 k arg8).view (r_2 c arg2 k X0) (r_3 c arg2 k X0) (r_4 c arg2 k X0) (r_5 c arg2 k X0) (r_6 c arg2 k X0) (r_7 c arg2 k X0) (r_8 c arg2 k X0) (r_9 c arg2 k X0) := rfl

/-- Group 0: the scale codes. -/
theorem code0 : r_30 c arg2 arg8 k X0 = codeOf (r_22 c arg2 arg8 k X0) := rfl

/-- Group 1: the largest magnitudes. -/
theorem amax1 : r_57 c arg3 arg8 k X1 =
    slabMax (slab1 k arg8).view (r_41 c arg3 k X1) (r_42 c arg3 k X1) (r_43 c arg3 k X1) (r_44 c arg3 k X1) (r_45 c arg3 k X1) (r_46 c arg3 k X1) (r_47 c arg3 k X1) (r_48 c arg3 k X1) := rfl

/-- Group 1: the scale codes. -/
theorem code1 : r_68 c arg3 arg8 k X1 = codeOf (r_57 c arg3 arg8 k X1) := rfl

/-- Group 2: the largest magnitudes. -/
theorem amax2 : r_95 c arg2 arg3 arg8 k X0 X1 =
    slabMax (slab2 k arg8).view (r_80 c arg2 k X0) (r_81 c arg2 k X0) (r_82 c arg2 k X0) (r_83 c arg2 k X0) (r_84 c arg3 k X1) (r_85 c arg3 k X1) (r_86 c arg3 k X1) (r_87 c arg3 k X1) := rfl

/-- Group 2: the scale codes. -/
theorem code2 : r_106 c arg2 arg3 arg8 k X0 X1 = codeOf (r_95 c arg2 arg3 arg8 k X0 X1) := rfl

/-- Group 3: the largest magnitudes. -/
theorem amax3 : r_136 c arg2 arg3 arg8 k X0 X1 =
    slabMax (slab3 k arg8).view (r_118 c arg2 k X0) (r_119 c arg2 k X0) (r_120 c arg2 k X0) (r_121 c arg2 k X0) (r_122 c arg3 k X1) (r_123 c arg3 k X1) (r_124 c arg3 k X1) (r_125 c arg3 k X1) := rfl

/-- Group 3: the scale codes. -/
theorem code3 : r_145 c arg2 arg3 arg8 k X0 X1 = codeOf (r_136 c arg2 arg3 arg8 k X0 X1) := rfl

/-- Group 0: the multiplier scratch after the multipliers are stored. -/
def invBuf0 : Buf (Elt F) (arg9.view.loc (c : Thread nD τ)) :=
  View.write (Elt F) (arg9.access (Rect.unit (s := S16x4x8x128) (k0_off3 k) S1x1x8x128.size (k0_off3_inb k))) g0 (invOf (r_22 c arg2 arg8 k X0)) Finset.univ

/-- Group 0: the quantised stack. -/
def quant0 : FVec F S256x128 .fp8e4m3 :=
  quantised (inv0 k arg9).view (invBuf0 c arg2 arg8 arg9 k X0 g0) (r_2 c arg2 k X0) (r_3 c arg2 k X0) (r_4 c arg2 k X0) (r_5 c arg2 k X0) (r_6 c arg2 k X0) (r_7 c arg2 k X0) (r_8 c arg2 k X0) (r_9 c arg2 k X0)

/-- Group 1: the multiplier scratch after the multipliers are stored. -/
def invBuf1 : Buf (Elt F) (arg9.view.loc (c : Thread nD τ)) :=
  View.write (Elt F) (arg9.access (Rect.unit (s := S16x4x8x128) (k0_off7 k) S1x1x8x128.size (k0_off7_inb k))) g1 (invOf (r_57 c arg3 arg8 k X1)) Finset.univ

/-- Group 1: the quantised stack. -/
def quant1 : FVec F S256x128 .fp8e4m3 :=
  quantised (inv1 k arg9).view (invBuf1 c arg3 arg8 arg9 k X1 g1) (r_41 c arg3 k X1) (r_42 c arg3 k X1) (r_43 c arg3 k X1) (r_44 c arg3 k X1) (r_45 c arg3 k X1) (r_46 c arg3 k X1) (r_47 c arg3 k X1) (r_48 c arg3 k X1)

/-- Group 2: the multiplier scratch after the multipliers are stored. -/
def invBuf2 : Buf (Elt F) (arg9.view.loc (c : Thread nD τ)) :=
  View.write (Elt F) (arg9.access (Rect.unit (s := S16x4x8x128) (k0_off12 k) S1x1x8x128.size (k0_off12_inb k))) g2 (invOf (r_95 c arg2 arg3 arg8 k X0 X1)) Finset.univ

/-- Group 2: the quantised stack. -/
def quant2 : FVec F S256x128 .fp8e4m3 :=
  quantised (inv2 k arg9).view (invBuf2 c arg2 arg3 arg8 arg9 k X0 X1 g2) (r_80 c arg2 k X0) (r_81 c arg2 k X0) (r_82 c arg2 k X0) (r_83 c arg2 k X0) (r_84 c arg3 k X1) (r_85 c arg3 k X1) (r_86 c arg3 k X1) (r_87 c arg3 k X1)

/-- Group 3: the multiplier scratch after the multipliers are stored. -/
def invBuf3 : Buf (Elt F) (arg9.view.loc (c : Thread nD τ)) :=
  View.write (Elt F) (arg9.access (Rect.unit (s := S16x4x8x128) (k0_off16 k) S1x1x8x128.size (k0_off16_inb k))) g3 (invOf (r_136 c arg2 arg3 arg8 k X0 X1)) Finset.univ

/-- Group 3: the quantised stack. -/
def quant3 : FVec F S256x128 .fp8e4m3 :=
  quantised (inv3 k arg9).view (invBuf3 c arg2 arg3 arg8 arg9 k X0 X1 g3) (r_118 c arg2 k X0) (r_119 c arg2 k X0) (r_120 c arg2 k X0) (r_121 c arg2 k X0) (r_122 c arg3 k X1) (r_123 c arg3 k X1) (r_124 c arg3 k X1) (r_125 c arg3 k X1)

variable (i : grid0.Coords) (harg2 : arg2.IsWhole) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (harg8 : arg8.IsWhole) (harg9 : arg9.IsWhole) (arg10 : Memref sig .tc .vmem S8x4096 .i32) (harg10 : arg10.IsWhole) (arg11 : Memref sig .tc .vmem S2x128x128 .i32) (harg11 : arg11.IsWhole)

/-- What a trip stores into the row codes. -/
theorem pieces4 : (tripV c i arg2 harg2 arg3 harg3 arg4 harg4 arg5 harg5 arg6 harg6 arg7 harg7 arg8 harg8 arg9 harg9 arg10 harg10 arg11 harg11 k X0 X1 g0 g1 g2 g3).1
    = [⟨Rect.unit (s := S4096x256) (k0_off18 k) S256x256.size (k0_off18_inb k), swapped (quant2 c arg2 arg3 arg8 arg9 k X0 X1 g2) (quant3 c arg2 arg3 arg8 arg9 k X0 X1 g3)⟩] := rfl

/-- What a trip stores into the transposed column codes. -/
theorem pieces6 : (tripV c i arg2 harg2 arg3 harg3 arg4 harg4 arg5 harg5 arg6 harg6 arg7 harg7 arg8 harg8 arg9 harg9 arg10 harg10 arg11 harg11 k X0 X1 g0 g1 g2 g3).2.1
    = [⟨Rect.unit (s := S256x4096) (k0_off10 k) S256x256.size (k0_off10_inb k), swapped (quant0 c arg2 arg8 arg9 k X0 g0) (quant1 c arg3 arg8 arg9 k X1 g1)⟩] := rfl

/-- What a trip stores into the scratch array of row scales. -/
theorem pieces10 : (tripV c i arg2 harg2 arg3 harg3 arg4 harg4 arg5 harg5 arg6 harg6 arg7 harg7 arg8 harg8 arg9 harg9 arg10 harg10 arg11 harg11 k X0 X1 g0 g1 g2 g3).2.2.1
    = [⟨Rect.unit (s := S8x4096) (k0_off14 k 128#32) S8x128.size (k0_off14_inb k 1), shapeCast S8x128 (codeOf (r_136 c arg2 arg3 arg8 k X0 X1)) shapeCasts_S8x128_S8x128⟩,
      ⟨Rect.unit (s := S8x4096) (k0_off14 k 0#32) S8x128.size (k0_off14_inb k 0), shapeCast S8x128 (codeOf (r_95 c arg2 arg3 arg8 k X0 X1)) shapeCasts_S8x128_S8x128⟩] := rfl

/-- What a trip stores into the scratch array of column scales. -/
theorem pieces11 : (tripV c i arg2 harg2 arg3 harg3 arg4 harg4 arg5 harg5 arg6 harg6 arg7 harg7 arg8 harg8 arg9 harg9 arg10 harg10 arg11 harg11 k X0 X1 g0 g1 g2 g3).2.2.2.1
    = [⟨Rect.unit (s := S2x128x128) (k0_off9 k) S1x8x128.size (k0_off9_inb k), shapeCast S1x8x128 (codeOf (r_57 c arg3 arg8 k X1)) shapeCasts_S8x128_S1x8x128⟩,
      ⟨Rect.unit (s := S2x128x128) (k0_off5 k) S1x8x128.size (k0_off5_inb k), shapeCast S1x8x128 (codeOf (r_22 c arg2 arg8 k X0)) shapeCasts_S8x128_S1x8x128⟩] := rfl

end Cert.Proof.KernelIdeal
-- ==== Proof.Exponent.lean ====
module

public import Idealize.ShloMosaic.PureOps.Ideal
public import Idealize.ShloMosaic.PureOps.Ideal.Laws
public import Mathlib.Analysis.SpecialFunctions.Pow.Real

/-!
The quantiser as real mathematics.

A block of 32 values has a largest magnitude `a`. Its shared exponent is `floor (log2 (a / 448)) + 1`, or zero where
`a / 448` is below the smallest normal float or `a` is above the largest one. A value `v` of the block is stored as
`v * 2 ^ (-e)` clipped to `[-448, 448]`, and the block's scale as `e + 127`.
-/

@[expose] public section

noncomputable section

namespace Cert.Proof.Spec

open Idealize.ShloMosaic

/-- The logarithm to base two. -/
def log2 (x : ℝ) : ℝ := Real.log x / Real.log 2

theorem le_log2_iff (n : ℤ) {x : ℝ} (hx : 0 < x) : (n : ℝ) ≤ log2 x ↔ (2 : ℝ) ^ n ≤ x := by
  unfold log2
  rw [le_div_iff₀ (Real.log_pos (by norm_num)), ← Real.log_zpow, Real.log_le_log_iff (zpow_pos (by norm_num) n) hx]

theorem log2_lt_iff (n : ℤ) {x : ℝ} (hx : 0 < x) : log2 x < n ↔ x < (2 : ℝ) ^ n := by
  rw [← not_le, le_log2_iff n hx, not_le]

/-- The largest finite 32-bit float. -/
def f32Max : ℝ := (2 ^ 24 - 1) * 2 ^ (104 : ℤ)

/-- The least magnitude whose quotient by 448 is a normal float. -/
def tiny : ℝ := 448 * 2 ^ (-126 : ℤ)

/-- The largest magnitude of a block. -/
def amax (f : Fin 32 → EReal) : EReal := Finset.univ.sup fun r => max (f r) (-(f r))

/-- The shared exponent of a block whose largest magnitude is `a`. -/
def expo (a : EReal) : ℤ := if a < (tiny : EReal) ∨ (f32Max : EReal) < a then 0 else ⌊log2 (a.toReal / 448)⌋ + 1

/-- The scale code, as a 32-bit word. -/
def code (a : EReal) : BitVec 32 := BitVec.ofInt 32 (expo a + 127)

/-- The multiplier of a block. -/
def mult (a : EReal) : EReal := (((2 : ℝ) ^ (-(expo a)) : ℝ) : EReal)

/-- A value of a block, quantised. -/
def quant (v a : EReal) : EReal := min ((448 : ℝ) : EReal) (max ((-448 : ℝ) : EReal) (v * mult a))

/-- A largest magnitude is not negative. -/
theorem amax_nonneg (f : Fin 32 → EReal) : 0 ≤ amax f := by
  refine le_trans ?_ (Finset.le_sup (f := fun r => max (f r) (-(f r))) (Finset.mem_univ 0))
  rcases le_total 0 (f 0) with h | h
  · exact le_max_of_le_left h
  · exact le_max_of_le_right (EReal.neg_nonneg.2 h)

/-- A quantised value is a real number. -/
theorem quant_real (v a : EReal) : ∃ r : ℝ, quant v a = r := by
  have h1 : quant v a ≤ ((448 : ℝ) : EReal) := min_le_left _ _
  have h2 : ((-448 : ℝ) : EReal) ≤ quant v a := le_min (by exact_mod_cast (by norm_num : (-448 : ℝ) ≤ 448)) (le_max_left _ _)
  refine ⟨(quant v a).toReal, (EReal.coe_toReal ?_ ?_).symm⟩
  · intro h; rw [h] at h1; exact absurd h1 (not_le.2 (EReal.coe_lt_top _))
  · intro h; rw [h] at h2; exact absurd h2 (not_le.2 (EReal.bot_lt_coe _))

/-- The exponent at a magnitude written with its binary exponent. -/
theorem expo_of (m : ℝ) (s : ℤ) (h1 : 1 ≤ m) (h2 : m < 2) (hs1 : -126 ≤ s) (hs2 : s ≤ 127) (a : ℝ) (ha : a = m * 2 ^ s)
    (hmax : a ≤ f32Max) : expo a = if s < -118 ∨ (s = -118 ∧ m < 7 / 4) then 0 else s - 8 + (if m < 7 / 4 then 0 else 1) := by
  have h2p : ∀ n : ℤ, (0 : ℝ) < 2 ^ n := fun n => zpow_pos (by norm_num) n
  have ha0 : 0 < a := by rw [ha]; exact mul_pos (by linarith) (h2p s)
  have htiny : tiny = 7 / 4 * 2 ^ (-118 : ℤ) := by unfold tiny; norm_num
  have hlt : (a : EReal) < (tiny : EReal) ↔ s < -118 ∨ (s = -118 ∧ m < 7 / 4) := by
    rw [EReal.coe_lt_coe_iff, htiny, ha]
    constructor
    · intro h
      by_contra hc
      push Not at hc
      obtain ⟨hc1, hc2⟩ := hc
      rcases eq_or_lt_of_le hc1 with e | l
      · have := hc2 e.symm
        rw [← e] at h
        exact absurd h (not_lt.2 (mul_le_mul_of_nonneg_right this (h2p _).le))
      · have h3 : (2 : ℝ) ^ (-117 : ℤ) ≤ 2 ^ s := zpow_le_zpow_right₀ (by norm_num) (by omega)
        have h4 : (2 : ℝ) ^ (-117 : ℤ) = 2 * 2 ^ (-118 : ℤ) := by norm_num
        have h5 : (2 : ℝ) ^ s ≤ m * 2 ^ s := le_mul_of_one_le_left (h2p s).le h1
        have h6 := h2p (-118)
        rw [h4] at h3
        clear h4 htiny
        generalize (2 : ℝ) ^ (-118 : ℤ) = u at *
        generalize (2 : ℝ) ^ s = w at *
        linarith
    · rintro (l | ⟨e, l⟩)
      · have h3 : (2 : ℝ) ^ s ≤ 2 ^ (-119 : ℤ) := zpow_le_zpow_right₀ (by norm_num) (by omega)
        have h4 : (2 : ℝ) ^ (-118 : ℤ) = 2 * 2 ^ (-119 : ℤ) := by norm_num
        have h5 : m * 2 ^ s < 2 * 2 ^ s := mul_lt_mul_of_pos_right h2 (h2p s)
        have h6 := h2p (-119)
        rw [h4]
        clear h4 htiny
        generalize (2 : ℝ) ^ (-119 : ℤ) = u at *
        generalize (2 : ℝ) ^ s = w at *
        linarith
      · rw [e]; exact mul_lt_mul_of_pos_right l (h2p _)
  have hgt : ¬ ((f32Max : EReal) < a) := by rw [EReal.coe_lt_coe_iff]; exact not_lt.2 hmax
  unfold expo
  simp only [hlt, hgt, or_false, EReal.toReal_coe]
  split
  · rfl
  · have key : ∀ n : ℤ, (2 : ℝ) ^ n ≤ a / 448 → a / 448 < 2 ^ (n + 1) → ⌊log2 (a / 448)⌋ = n := by
      intro n hn1 hn2
      have hp : 0 < a / 448 := by positivity
      rw [Int.floor_eq_iff]
      constructor
      · rw [le_log2_iff n hp]; exact hn1
      · have : ((n : ℝ) + 1) = ((n + 1 : ℤ) : ℝ) := by push_cast; ring
        rw [this, log2_lt_iff (n + 1) hp]; exact hn2
    have e9 : (2 : ℝ) ^ s = 512 * 2 ^ (s - 9) := by rw [zpow_sub₀ (by norm_num)]; norm_num; ring
    have e8 : (2 : ℝ) ^ (s - 8) = 2 * 2 ^ (s - 9) := by
      rw [show s - 8 = (s - 9) + 1 by ring, zpow_add_one₀ (by norm_num)]; ring
    have e7 : (2 : ℝ) ^ (s - 8 + 1) = 4 * 2 ^ (s - 9) := by
      rw [show s - 8 + 1 = (s - 9) + 1 + 1 by ring, zpow_add_one₀ (by norm_num), zpow_add_one₀ (by norm_num)]; ring
    have hq := h2p (s - 9)
    by_cases hm : m < 7 / 4
    · rw [key (s - 9) (by rw [ha, e9]; rw [le_div_iff₀ (by norm_num)]; nlinarith)
        (by rw [show s - 9 + 1 = s - 8 by ring, e8, ha, e9, div_lt_iff₀ (by norm_num)]; nlinarith), if_pos hm]
      ring
    · rw [key (s - 8) (by rw [ha, e9, e8]; rw [le_div_iff₀ (by norm_num)]; nlinarith)
        (by rw [e7, ha, e9, div_lt_iff₀ (by norm_num)]; nlinarith), if_neg hm]

/-- The exponent is a small integer. -/
theorem expo_bounds (a : EReal) (ha : 0 ≤ a) : -125 ≤ expo a ∧ expo a ≤ 120 := by
  unfold expo
  split
  · omega
  · rename_i h
    push Not at h
    obtain ⟨h1, h2⟩ := h
    lift a to ℝ using ⟨fun h => by rw [h] at h2; exact absurd h2 (not_le.2 (EReal.coe_lt_top _)),
      fun h => by rw [h] at h1; exact absurd h1 (not_le.2 (EReal.bot_lt_coe _))⟩
    rw [EReal.coe_le_coe_iff] at h1 h2
    rw [EReal.toReal_coe]
    have ht : (0 : ℝ) < tiny := by unfold tiny; positivity
    have hp : 0 < a / 448 := by have := lt_of_lt_of_le ht h1; positivity
    constructor
    · have : (-126 : ℤ) ≤ ⌊log2 (a / 448)⌋ := by
        rw [Int.le_floor, le_log2_iff _ hp, le_div_iff₀ (by norm_num)]
        unfold tiny at h1; linarith
      omega
    · have : ⌊log2 (a / 448)⌋ < 120 := by
        rw [Int.floor_lt, log2_lt_iff _ hp, div_lt_iff₀ (by norm_num)]
        refine lt_of_le_of_lt h2 ?_
        unfold f32Max; norm_num
      omega

end Cert.Proof.Spec
-- ==== Proof.SlabRead.lean ====
module

public import proofs.«01_k».proof.Proof.Quantise
public import proofs.«01_k».proof.Proof.Exponent
public import Idealize.ShloMosaic.Lib.ValueIdx
public import Idealize.ShloMosaic.Lib.Pipeline.Value
public import Idealize.ShloMosaic.Lib.Bf16Pair
public import Idealize.ShloMosaic.Lib.Bf16PairInverse

/-!
The largest magnitudes of eight blocks, read at an index.

Each block is stored as eight pairs of rows, one pair at every ninth row of a scratch array; each tile that is read back
takes eight neighbouring rows, one of each block. So the largest of the eight tiles, and of the two rows of each pair, is
the largest magnitude of each block's columns.
-/

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.ValueIdx

/-- Every ninth row from row `b` on. -/
def ninth (b : ℕ) (inb : ∀ a, (![8, 2, 128] : Fin 3 → ℕ) a = 0 ∨ (![b, 0, 0] : Fin 3 → ℕ) a + (![9, 1, 1] : Fin 3 → ℕ) a * ((![8, 2, 128] : Fin 3 → ℕ) a - 1) < S72x2x128.size a)
    (pos : ∀ a, 0 < (![9, 1, 1] : Fin 3 → ℕ) a) : Rect S72x2x128 :=
  { off := ![b, 0, 0], size := ![8, 2, 128], stride := ![9, 1, 1], inb := inb, stride_pos := pos }

/-- What the scratch array holds: at row `9 t + b`, pair `t` of block `b`. -/
def slabValue (P : Fin 8 → S8x2x128.Idx → EReal) (y : S72x2x128.Idx) : EReal :=
  if h : (y 0).val % 9 < 8 then P ⟨(y 0).val % 9, h⟩ (ix3 (⟨(y 0).val / 9, by have : (y 0).val < 72 := (y 0).isLt; omega⟩ : Fin 8) (y 1) (y 2)) else 0

/-- What the scratch array holds at row `9 t + b`. -/
theorem slabValue_at (P : Fin 8 → S8x2x128.Idx → EReal) (y : S72x2x128.Idx) (b : Fin 8) (j : S8x2x128.Idx)
    (h0 : (y 0).val = 9 * (j 0).val + b.val) (h1 : (y 1).val = (j 1).val) (h2 : (y 2).val = (j 2).val) : slabValue P y = P b j := by
  have hb := b.isLt
  have hj : (j 0).val < 8 := (j 0).isLt
  unfold slabValue
  rw [dif_pos (show (y 0).val % 9 < 8 by omega)]
  have e1 : (⟨(y 0).val % 9, by omega⟩ : Fin 8) = b := Fin.ext (by show (y 0).val % 9 = b.val; omega)
  have e2 : (ix3 (⟨(y 0).val / 9, by omega⟩ : Fin 8) (y 1) (y 2) : S8x2x128.Idx) = j := by
    funext a; apply Fin.ext
    match a with
    | ⟨0, _⟩ => show (y 0).val / 9 = (j 0).val; omega
    | ⟨1, _⟩ => exact h1
    | ⟨2, _⟩ => exact h2
  rw [e1, e2]

theorem ninth_mem (b : ℕ) (inb pos) (j : S8x2x128.Idx) (y : S72x2x128.Idx)
    (h0 : (y 0).val = 9 * (j 0).val + b) (h1 : (y 1).val = (j 1).val) (h2 : (y 2).val = (j 2).val) : y ∈ (ninth b inb pos).set := by
  rw [LoadRect.mem_set]
  intro a
  match a with
  | ⟨0, _⟩ => exact ⟨(j 0).val, (j 0).isLt, show (y 0).val = b + 9 * (j 0).val by omega⟩
  | ⟨1, _⟩ => exact ⟨(j 1).val, (j 1).isLt, show (y 1).val = 0 + 1 * (j 1).val by omega⟩
  | ⟨2, _⟩ => exact ⟨(j 2).val, (j 2).isLt, show (y 2).val = 0 + 1 * (j 2).val by omega⟩

theorem ninth_agrees (P : Fin 8 → S8x2x128.Idx → EReal) (b : Fin 8) (inb pos) (w : S8x2x128.Idx → EReal) (hw : w = P b)
    (x : S8x2x128.Idx) : w x = slabValue P ((ninth b.val inb pos).emb x) := by
  rw [hw]
  refine (slabValue_at P _ b x ?_ ?_ ?_).symm
  · show b.val + 9 * (x 0).val = _; omega
  · show 0 + 1 * (x 1).val = _; omega
  · show 0 + 1 * (x 2).val = _; omega

variable (z0 z1 z2 z3 z4 z5 z6 z7 : FVec Ideal S32x128 .bf16)

/-- One of eight blocks. -/
def pick8 {α : Type} (a0 a1 a2 a3 a4 a5 a6 a7 : α) (b : Fin 8) : α :=
  match b with
  | 0 => a0 | 1 => a1 | 2 => a2 | 3 => a3 | 4 => a4 | 5 => a5 | 6 => a6 | 7 => a7

/-- A tile read back: its row `b` is a pair of rows of block `b`. -/
theorem tile_eq {sig : RefSig} {κ : Kind} {sp : Space} (v : View sig κ sp S72x2x128 .bf16) (t : Fin 8) (inb : ∀ a, (![9 * t.val, 0, 0] : Fin 3 → ℕ) a + (![8, 2, 128] : Fin 3 → ℕ) a ≤ S72x2x128.size a)
    (j : S8x2x128.Idx) :
    v.readCov (Val := Elt Ideal) (slabPieces z0 z1 z2 z3 z4 z5 z6 z7) (Rect.unit (s := S72x2x128) ![9 * t.val, 0, 0] S8x2x128.size inb).toLoadRect j
      = pairMax (pick8 z0 z1 z2 z3 z4 z5 z6 z7 (j 0)) (ix3 t (j 1) (j 2)) := by
  rw [View.readCov_eq_canon']
  set P : Fin 8 → S8x2x128.Idx → EReal := fun b => pairMax (pick8 z0 z1 z2 z3 z4 z5 z6 z7 b) with hP
  set y : S72x2x128.Idx := (Rect.unit (s := S72x2x128) ![9 * t.val, 0, 0] S8x2x128.size inb).toLoadRect.idx j with hy
  have y0 : (y 0).val = 9 * t.val + (j 0).val := by show 9 * t.val + 1 * (j 0).val = _; omega
  have y1 : (y 1).val = (j 1).val := by show 0 + 1 * (j 1).val = _; omega
  have y2 : (y 2).val = (j 2).val := by show 0 + 1 * (j 2).val = _; omega
  have hj : (j 0).val < 8 := (j 0).isLt
  refine (View.canon_apply_of_pieces (Val := Elt Ideal) (slabValue P) _ ?_ y ?_).trans ?_
  · intro p hp
    unfold slabPieces at hp
    simp only [List.mem_cons, List.not_mem_nil, or_false] at hp
    rcases hp with rfl | rfl | rfl | rfl | rfl | rfl | rfl | rfl
    · exact ninth_agrees P 7 _ _ _ rfl
    · exact ninth_agrees P 6 _ _ _ rfl
    · exact ninth_agrees P 5 _ _ _ rfl
    · exact ninth_agrees P 4 _ _ _ rfl
    · exact ninth_agrees P 3 _ _ _ rfl
    · exact ninth_agrees P 2 _ _ _ rfl
    · exact ninth_agrees P 1 _ _ _ rfl
    · exact ninth_agrees P 0 _ _ _ rfl
  · unfold slabPieces
    have go : ∀ b : ℕ, (j 0).val = b → (y 0).val = 9 * ((ix3 t (j 1) (j 2) : S8x2x128.Idx) 0).val + b := fun b h => by
      rw [y0, h]
    obtain h | h | h | h | h | h | h | h : (j 0).val = 7 ∨ (j 0).val = 6 ∨ (j 0).val = 5 ∨ (j 0).val = 4 ∨ (j 0).val = 3 ∨ (j 0).val = 2
      ∨ (j 0).val = 1 ∨ (j 0).val = 0 := by omega
    · exact ⟨_, .head _, ninth_mem 7 _ _ (ix3 t (j 1) (j 2)) y (go _ h) y1 y2⟩
    · exact ⟨_, .tail _ (.head _), ninth_mem 6 _ _ (ix3 t (j 1) (j 2)) y (go _ h) y1 y2⟩
    · exact ⟨_, .tail _ (.tail _ (.head _)), ninth_mem 5 _ _ (ix3 t (j 1) (j 2)) y (go _ h) y1 y2⟩
    · exact ⟨_, .tail _ (.tail _ (.tail _ (.head _))), ninth_mem 4 _ _ (ix3 t (j 1) (j 2)) y (go _ h) y1 y2⟩
    · exact ⟨_, .tail _ (.tail _ (.tail _ (.tail _ (.head _)))), ninth_mem 3 _ _ (ix3 t (j 1) (j 2)) y (go _ h) y1 y2⟩
    · exact ⟨_, .tail _ (.tail _ (.tail _ (.tail _ (.tail _ (.head _))))), ninth_mem 2 _ _ (ix3 t (j 1) (j 2)) y (go _ h) y1 y2⟩
    · exact ⟨_, .tail _ (.tail _ (.tail _ (.tail _ (.tail _ (.tail _ (.head _)))))), ninth_mem 1 _ _ (ix3 t (j 1) (j 2)) y (go _ h) y1 y2⟩
    · exact ⟨_, .tail _ (.tail _ (.tail _ (.tail _ (.tail _ (.tail _ (.tail _ (.head _))))))), ninth_mem 0 _ _ (ix3 t (j 1) (j 2)) y (go _ h) y1 y2⟩
  · exact slabValue_at P y (j 0) (ix3 t (j 1) (j 2)) y0 y1 y2

/-- The magnitude of an element of a block. -/
def mag (z : FVec Ideal S32x128 .bf16) (r : Fin 32) (l : Fin 128) : EReal := max (z (ix2 r l)) (-(z (ix2 r l)))

/-- The rows of parity `q` of sixteen rows, at an index. -/
theorem rows16 {α : Type} (q : Fin 2) (x : S16x128.Idx → α) (j : S8x128.Idx) :
    rowsOfParity q S8x128 x bitcasts_S16x128_w16_S8x128_w32 j
      = x (ix2 (⟨2 * (j 0).val + q.val, by have : (j 0).val < 8 := (j 0).isLt; have := q.isLt; omega⟩ : Fin 16) (j 1)) := by
  unfold rowsOfParity
  congr 1
  funext a
  match a with
  | ⟨0, _⟩ => rfl
  | ⟨1, _⟩ => rfl

/-- The rows of parity `q` of eight pairs, at an index. -/
theorem rowsPairs {α : Type} (q : Fin 2) (x : S8x2x128.Idx → α) (b : Fin 8) (l : Fin 128) :
    rowsOfParity q S8x1x128 x bitcasts_S8x2x128_w16_S8x1x128_w32 (ix3 b (0 : Fin 1) l) = x (ix3 b q l) := by
  unfold rowsOfParity
  congr 1
  funext a
  match a with
  | ⟨0, _⟩ => rfl
  | ⟨1, _⟩ => exact Fin.ext (by show 2 * 0 + q.val = q.val; omega)
  | ⟨2, _⟩ => rfl

/-- A pair of a block's magnitudes. -/
theorem pairMax_apply (z : FVec Ideal S32x128 .bf16) (t : Fin 8) (q : Fin 2) (l : Fin 128) : pairMax z (ix3 t q l)
    = max (mag z ⟨2 * t.val + q.val, by have := t.isLt; have := q.isLt; omega⟩ l)
        (mag z ⟨16 + (2 * t.val + q.val), by have := t.isLt; have := q.isLt; omega⟩ l) := by
  refine (rowsPairs q (pairMax z) t l).symm.trans ?_
  have cast : ∀ (y : S8x128.Idx → EReal), shapeCast S8x1x128 y shapeCasts_S8x128_S8x1x128 (ix3 t (0 : Fin 1) l) = y (ix2 t l) := by
    intro y
    refine shapeCast_apply y shapeCasts_S8x128_S8x1x128 _ _ ?_
    rw [Shape.rowMajor_val_two, Shape.rowMajor_val_three]
    show t.val * 128 + l.val = (t.val * 1 + 0) * 128 + l.val
    omega
  have rd : ∀ q : Fin 2, rowsOfParity q S8x128 (maximumf (extractStridedSlice S16x128 ![0, 0] (absf z) slices_S32x128_o0_0_S16x128)
      (extractStridedSlice S16x128 ![16, 0] (absf z) slices_S32x128_o16_0_S16x128)) bitcasts_S16x128_w16_S8x128_w32 (ix2 t l)
      = max (mag z ⟨2 * t.val + q.val, by have := t.isLt; have := q.isLt; omega⟩ l)
        (mag z ⟨16 + (2 * t.val + q.val), by have := t.isLt; have := q.isLt; omega⟩ l) := by
    intro q
    rw [rows16]
    have e1 : ∀ (o : ℕ) (h : S32x128.Slices ![o, 0] S16x128) (r : Fin 16) (hr : o + r.val < 32),
        extractStridedSlice S16x128 ![o, 0] (absf z) h (ix2 r l) = mag z ⟨o + r.val, hr⟩ l := by
      intro o h r hr
      have : extractStridedSlice S16x128 ![o, 0] (absf z) h (ix2 r l) = absf z (ix2 (⟨o + r.val, hr⟩ : Fin 32) l) := by
        unfold extractStridedSlice
        congr 1
        funext a
        match a with
        | ⟨0, _⟩ => rfl
        | ⟨1, _⟩ => exact Fin.ext (by show 0 + l.val = l.val; omega)
      rw [this]; rfl
    have ht := t.isLt
    have hq := q.isLt
    refine (congrArg₂ max (e1 0 slices_S32x128_o0_0_S16x128 ⟨2 * t.val + q.val, by omega⟩ (by show 0 + (2 * t.val + q.val) < 32; omega))
      (e1 16 slices_S32x128_o16_0_S16x128 ⟨2 * t.val + q.val, by omega⟩ (by show 16 + (2 * t.val + q.val) < 32; omega))).trans ?_
    congr 2
    exact Fin.ext (by show 0 + (2 * t.val + q.val) = 2 * t.val + q.val; omega)
  unfold pairMax
  dsimp only
  match q with
  | 0 => rw [rowsOfParity_zero_interleaveRows, cast]; exact rd 0
  | 1 => rw [rowsOfParity_one_interleaveRows, cast]; exact rd 1

/-- A tile's rows of one parity. -/
theorem tileRows_parity (r : Vec Ideal S8x2x128 .bf16) (q : Fin 2) (b : Fin 8) (l : Fin 128) :
    rowsOfParity q S8x128 (tileRows r) bitcasts_S16x128_w16_S8x128_w32 (ix2 b l) = r (ix3 b q l) := by
  have cast : ∀ (y : S8x1x128.Idx → EReal), shapeCast S8x128 y shapeCasts_S8x1x128_S8x128 (ix2 b l) = y (ix3 b (0 : Fin 1) l) := by
    intro y
    refine shapeCast_apply y shapeCasts_S8x1x128_S8x128 _ _ ?_
    rw [Shape.rowMajor_val_two, Shape.rowMajor_val_three]
    show (b.val * 1 + 0) * 128 + l.val = b.val * 128 + l.val
    omega
  unfold tileRows
  match q with
  | 0 => rw [rowsOfParity_zero_interleaveRows, cast, rowsPairs]
  | 1 => rw [rowsOfParity_one_interleaveRows, cast, rowsPairs]

/-- The largest of eight values, taken as a tree. -/
theorem tree8 (g : Fin 8 → EReal) : max (max (max (g 0) (g 1)) (max (g 2) (g 3))) (max (max (g 4) (g 5)) (max (g 6) (g 7))) = Finset.univ.sup g := by
  apply le_antisymm
  · simp only [max_le_iff]
    exact ⟨⟨⟨Finset.le_sup (f := g) (Finset.mem_univ 0), Finset.le_sup (f := g) (Finset.mem_univ 1)⟩, Finset.le_sup (f := g) (Finset.mem_univ 2), Finset.le_sup (f := g) (Finset.mem_univ 3)⟩,
      ⟨Finset.le_sup (f := g) (Finset.mem_univ 4), Finset.le_sup (f := g) (Finset.mem_univ 5)⟩, Finset.le_sup (f := g) (Finset.mem_univ 6), Finset.le_sup (f := g) (Finset.mem_univ 7)⟩
  · refine Finset.sup_le fun t _ => ?_
    match t with
    | 0 => simp | 1 => simp | 2 => simp | 3 => simp | 4 => simp | 5 => simp | 6 => simp | 7 => simp

/-- The largest of eight tiles, and of the two rows of each pair. -/
theorem treeMax_apply (r : Fin 8 → Vec Ideal S8x2x128 .bf16) (b : Fin 8) (l : Fin 128) :
    treeMax (r 0) (r 1) (r 2) (r 3) (r 4) (r 5) (r 6) (r 7) (ix2 b l)
      = Finset.univ.sup fun q : Fin 2 => Finset.univ.sup fun t : Fin 8 => (r t (ix3 b q l) : EReal) := by
  have e : ∀ q : Fin 2, rowsOfParity q S8x128 (maximumf (maximumf (maximumf (tileRows (r 0)) (tileRows (r 1))) (maximumf (tileRows (r 2)) (tileRows (r 3))))
      (maximumf (maximumf (tileRows (r 4)) (tileRows (r 5))) (maximumf (tileRows (r 6)) (tileRows (r 7))))) bitcasts_S16x128_w16_S8x128_w32 (ix2 b l)
      = Finset.univ.sup fun t : Fin 8 => (r t (ix3 b q l) : EReal) := by
    intro q
    have : ∀ x y : FVec Ideal S16x128 .bf16, rowsOfParity q S8x128 (maximumf x y) bitcasts_S16x128_w16_S8x128_w32 (ix2 b l)
        = max (rowsOfParity q S8x128 x bitcasts_S16x128_w16_S8x128_w32 (ix2 b l) : EReal) (rowsOfParity q S8x128 y bitcasts_S16x128_w16_S8x128_w32 (ix2 b l)) :=
      fun _ _ => rfl
    simp only [this, tileRows_parity]
    exact tree8 fun t : Fin 8 => (r t (ix3 b q l) : EReal)
  unfold treeMax
  have h : ∀ X Y : FVec Ideal S8x128 .bf16, maximumf (extf .f32 X bitsLt_bf16_f32) (extf .f32 Y bitsLt_bf16_f32) (ix2 b l)
      = max (X (ix2 b l) : EReal) (Y (ix2 b l)) := fun _ _ => rfl
  rw [h, e 0, e 1]
  apply le_antisymm
  · exact max_le (Finset.le_sup (f := fun q : Fin 2 => Finset.univ.sup fun t : Fin 8 => (r t (ix3 b q l) : EReal)) (Finset.mem_univ 0))
      (Finset.le_sup (f := fun q : Fin 2 => Finset.univ.sup fun t : Fin 8 => (r t (ix3 b q l) : EReal)) (Finset.mem_univ 1))
  · refine Finset.sup_le fun q _ => ?_
    match q with
    | 0 => exact le_max_left _ _
    | 1 => exact le_max_right _ _

/-- THE READING: the largest magnitudes of eight blocks' columns. -/
theorem slabMax_apply {sig : RefSig} {κ : Kind} {sp : Space} (v : View sig κ sp S72x2x128 .bf16) (b : Fin 8) (l : Fin 128) :
    slabMax v z0 z1 z2 z3 z4 z5 z6 z7 (ix2 b l) = Spec.amax fun r => pick8 z0 z1 z2 z3 z4 z5 z6 z7 b (ix2 r l) := by
  unfold slabMax
  dsimp only
  refine (treeMax_apply (fun t : Fin 8 => v.readCov (Val := Elt Ideal) (slabPieces z0 z1 z2 z3 z4 z5 z6 z7)
    (Rect.unit (s := S72x2x128) ![9 * t.val, 0, 0] S8x2x128.size
      (by intro a; have := t.isLt; match a with | ⟨0, _⟩ => show 9 * t.val + 8 ≤ 72; omega | ⟨1, _⟩ => show 0 + 2 ≤ 2; omega | ⟨2, _⟩ => show 0 + 128 ≤ 128; omega)).toLoadRect) b l).trans ?_
  refine (Finset.sup_congr rfl fun q _ => Finset.sup_congr rfl fun t _ => tile_eq z0 z1 z2 z3 z4 z5 z6 z7 v t _ (ix3 b q l)).trans ?_
  show (Finset.univ.sup fun q : Fin 2 => Finset.univ.sup fun t : Fin 8 => (pairMax (pick8 z0 z1 z2 z3 z4 z5 z6 z7 b) (ix3 t q l) : EReal)) = _
  generalize pick8 z0 z1 z2 z3 z4 z5 z6 z7 b = z
  simp only [pairMax_apply]
  unfold Spec.amax
  apply le_antisymm
  · refine Finset.sup_le fun q _ => Finset.sup_le fun t _ => max_le ?_ ?_
    · exact Finset.le_sup (f := fun r => mag z r l) (Finset.mem_univ _)
    · exact Finset.le_sup (f := fun r => mag z r l) (Finset.mem_univ _)
  · refine Finset.sup_le fun r _ => ?_
    have hr := r.isLt
    refine le_trans ?_ (Finset.le_sup (f := fun q : Fin 2 => Finset.univ.sup fun t : Fin 8 => max (mag z ⟨2 * t.val + q.val, _⟩ l) (mag z ⟨16 + (2 * t.val + q.val), _⟩ l))
      (Finset.mem_univ (⟨r.val % 2, by omega⟩ : Fin 2)))
    refine le_trans ?_ (Finset.le_sup (f := fun t : Fin 8 => max (mag z ⟨2 * t.val + r.val % 2, _⟩ l) (mag z ⟨16 + (2 * t.val + r.val % 2), _⟩ l))
      (Finset.mem_univ (⟨r.val % 16 / 2, by omega⟩ : Fin 8)))
    show mag z r l ≤ _
    by_cases h : r.val < 16
    · refine le_trans (le_of_eq ?_) (le_max_left _ _)
      congr 1; exact Fin.ext (by show r.val = 2 * (r.val % 16 / 2) + r.val % 2; omega)
    · refine le_trans (le_of_eq ?_) (le_max_right _ _)
      congr 1; exact Fin.ext (by show r.val = 16 + (2 * (r.val % 16 / 2) + r.val % 2); omega)

end Cert.Proof.KernelIdeal
-- ==== Proof.Normalise.lean ====
module

public import proofs.«01_k».proof.Proof.Quantise
public import proofs.«01_k».proof.Proof.Exponent
public import Idealize.ShloMosaic.Lib.ValueIdx

/-!
The kernel's way to a magnitude's bits: seven scalings down and seven up bring it between one and two and count the
binary exponent; the fraction follows by a cast. At the extended reals these are the bits of the magnitude.
-/

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.ValueIdx

/-- The pattern with exponent field `n` and no fraction. -/
theorem pow_fields : ∀ n : Fin 255, ((BitVec.ofNat 32 (n.val * 8388608)).extractLsb' 31 1 == 1#1) = false
    ∧ ((BitVec.ofNat 32 (n.val * 8388608)).extractLsb' 23 8).toNat = n.val
    ∧ ((BitVec.ofNat 32 (n.val * 8388608)).extractLsb' 0 23).toNat = 0 := by decide +kernel

/-- A 32-bit float with no fraction is a power of two. -/
theorem ofBits_pow (n : ℕ) (h0 : 0 < n) (h1 : n < 255) :
    Ideal.ofBits .f32 (BitVec.ofNat 32 (n * 8388608)) = (((2 : ℝ) ^ ((n : ℤ) - 127) : ℝ) : EReal) := by
  obtain ⟨a, b, c⟩ := pow_fields ⟨n, h1⟩
  simp only at a b c
  unfold Ideal.ofBits Ideal.ieee
  dsimp only
  rw [show (8 + 23 : ℕ) = 31 from rfl, a, b, c]
  rw [if_neg (by norm_num; omega), if_neg (by omega)]
  congr 1
  have : ((n : ℤ) - (2 ^ (8 - 1) - 1) - (23 : ℕ)) = ((n : ℤ) - 127) - 23 := by norm_num
  rw [this, zpow_sub₀ (by norm_num) ((n : ℤ) - 127) 23]
  norm_num
  ring

/-- Where a step has brought a magnitude: `m * 2 ^ s`, with `m` in range and `s` counted. -/
def At (a : ℝ) (lo hi : ℝ) (p : FVec Ideal S8x128 .f32 × IVec S8x128 32) (x : S8x128.Idx) : Prop :=
  ∃ (m : ℝ) (s : ℤ), p.1 x = (m : EReal) ∧ a = m * 2 ^ s ∧ p.2 x = BitVec.ofInt 32 (127 + s) ∧ lo ≤ m ∧ m < hi

theorem select_ofBool {α : Type} (b : Bool) (x y : α) : Scalar.select (BitVec.ofBool b) x y = if b then x else y := by
  cases b <;> rfl

theorem down_at {a : ℝ} {lo : ℝ} {p : FVec Ideal S8x128 .f32 × IVec S8x128 32} {x : S8x128.Idx} (k : ℕ) (hk : 0 < k) (hk' : k < 127)
    {thr scl : BitVec 32} (ht : thr = BitVec.ofNat 32 ((127 + k) * 8388608)) (hs : scl = BitVec.ofNat 32 ((127 - k) * 8388608))
    {d : BitVec 32} (hd : d = BitVec.ofInt 32 k) (hlo : lo ≤ 1) {hi hi' : ℝ} (hhi : hi = 2 ^ (k + k)) (hhi' : hi' = 2 ^ k)
    (h : At a lo hi p x) : At a lo hi' (down thr scl d p) x := by
  obtain ⟨m, s, hm, ha, he, hl, hh⟩ := h
  subst hd hhi hhi'
  have et : Ideal.ofBits .f32 thr = (((2 : ℝ) ^ k : ℝ) : EReal) := by
    rw [ht, ofBits_pow _ (by omega) (by omega), ← zpow_natCast]; congr 2; push_cast; ring
  have es : Ideal.ofBits .f32 scl = ((((2 : ℝ) ^ k)⁻¹ : ℝ) : EReal) := by
    rw [hs, ofBits_pow _ (by omega) (by omega), ← zpow_natCast, ← zpow_neg]; congr 2; omega
  have h2 : (0 : ℝ) < 2 ^ k := by positivity
  have c : (cmpf .oge p.1 (broadcast S8x128 (Scalar.ofBits .f32 thr)) : IVec S8x128 1) x
      = BitVec.ofBool (decide ((2 : ℝ) ^ k ≤ m)) := by
    show Ideal.cmp .oge (p.1 x) (Ideal.ofBits .f32 _) = _
    rw [et, hm]; simp only [Ideal.cmp, EReal.coe_le_coe_iff]
  by_cases hb : (2 : ℝ) ^ k ≤ m
  · refine ⟨m * (2 ^ k)⁻¹, s + k, ?_, ?_, ?_, ?_, ?_⟩
    · show Scalar.select _ (p.1 x * Ideal.ofBits .f32 _) _ = _
      rw [c, select_ofBool, if_pos (by simpa using hb), es, hm, EReal.coe_mul]
    · rw [ha, zpow_add₀ (by norm_num), zpow_natCast]; field_simp
    · show Scalar.select _ (p.2 x + BitVec.ofInt 32 k) _ = _
      rw [c, select_ofBool, if_pos (by simpa using hb), he, ← BitVec.ofInt_add]; congr 1; ring
    · refine le_trans hlo ?_
      rw [← div_eq_mul_inv, le_div_iff₀ h2]; linarith
    · rw [← div_eq_mul_inv, div_lt_iff₀ h2, ← pow_add]; exact hh
  · refine ⟨m, s, ?_, ha, ?_, hl, not_le.1 hb⟩
    · show Scalar.select _ _ _ = _
      rw [c, select_ofBool, if_neg (by simpa using hb), hm]
    · show Scalar.select _ _ _ = _
      rw [c, select_ofBool, if_neg (by simpa using hb), he]

theorem up_at {a : ℝ} {p : FVec Ideal S8x128 .f32 × IVec S8x128 32} {x : S8x128.Idx} (k : ℕ) (hk : 0 < k) (hk' : k < 127)
    {thr scl : BitVec 32} (ht : thr = BitVec.ofNat 32 ((128 - k) * 8388608)) (hs : scl = BitVec.ofNat 32 ((127 + k) * 8388608))
    {d : BitVec 32} (hd : d = BitVec.ofInt 32 k) {lo lo' : ℝ} (hlo : lo = 2 * (2 ^ (k + k))⁻¹) (hlo' : lo' = 2 * (2 ^ k)⁻¹)
    (h : At a lo 2 p x) : At a lo' 2 (up thr scl d p) x := by
  obtain ⟨m, s, hm, ha, he, hl, hh⟩ := h
  subst hd hlo hlo'
  have et : Ideal.ofBits .f32 thr = ((2 * ((2 : ℝ) ^ k)⁻¹ : ℝ) : EReal) := by
    rw [ht, ofBits_pow _ (by omega) (by omega), ← zpow_natCast, ← zpow_neg, ← zpow_one_add₀ (by norm_num)]; congr 2; omega
  have es : Ideal.ofBits .f32 scl = (((2 : ℝ) ^ k : ℝ) : EReal) := by
    rw [hs, ofBits_pow _ (by omega) (by omega), ← zpow_natCast]; congr 2; push_cast; ring
  have h2 : (0 : ℝ) < 2 ^ k := by positivity
  have c : (cmpf .olt p.1 (broadcast S8x128 (Scalar.ofBits .f32 thr)) : IVec S8x128 1) x
      = BitVec.ofBool (decide (m < 2 * ((2 : ℝ) ^ k)⁻¹)) := by
    show Ideal.cmp .olt (p.1 x) (Ideal.ofBits .f32 _) = _
    rw [et, hm]; simp only [Ideal.cmp, EReal.coe_lt_coe_iff]
  by_cases hb : m < 2 * ((2 : ℝ) ^ k)⁻¹
  · refine ⟨m * 2 ^ k, s - k, ?_, ?_, ?_, ?_, ?_⟩
    · show Scalar.select _ (p.1 x * Ideal.ofBits .f32 _) _ = _
      rw [c, select_ofBool, if_pos (by simpa using hb), es, hm, EReal.coe_mul]
    · rw [ha, zpow_sub₀ (by norm_num), zpow_natCast]; field_simp
    · show Scalar.select _ (p.2 x - BitVec.ofInt 32 k) _ = _
      rw [c, select_ofBool, if_pos (by simpa using hb), he, BitVec.sub_eq_add_neg, ← BitVec.ofInt_neg, ← BitVec.ofInt_add]; congr 1; ring
    · rw [pow_add, mul_inv] at hl
      have := mul_le_mul_of_nonneg_right hl h2.le
      rw [← mul_assoc, mul_assoc _ _ ((2 : ℝ) ^ k), inv_mul_cancel₀ h2.ne', mul_one] at this
      exact this
    · have := mul_lt_mul_of_pos_right hb h2
      rw [mul_assoc, inv_mul_cancel₀ h2.ne', mul_one] at this
      exact this
  · refine ⟨m, s, ?_, ha, ?_, not_lt.1 hb, hh⟩
    · show Scalar.select _ _ _ = _
      rw [c, select_ofBool, if_neg (by simpa using hb), hm]
    · show Scalar.select _ _ _ = _
      rw [c, select_ofBool, if_neg (by simpa using hb), he]

/-- The normalised value lies between one and two. -/
theorem normal_at (A : FVec Ideal S8x128 .f32) (x : S8x128.Idx) (a : ℝ) (hA : A x = (a : EReal)) (h1 : (2 : ℝ) ^ (-126 : ℤ) ≤ a)
    (h2 : a < 2 ^ (128 : ℕ)) : At a 1 2 (normal A) x := by
  unfold normal
  have h0 : At a (2 * (2 ^ (64 + 64))⁻¹) (2 ^ (64 + 64)) (A, broadcast S8x128 127#32) x :=
    ⟨a, 0, hA, by simp, rfl, le_trans (by norm_num) h1, h2⟩
  refine up_at 1 (by norm_num) (by norm_num) (by decide) (by decide) (by decide) rfl (by norm_num) ?_
  refine up_at 2 (by norm_num) (by norm_num) (by decide) (by decide) (by decide) rfl (by norm_num) ?_
  refine up_at 4 (by norm_num) (by norm_num) (by decide) (by decide) (by decide) rfl (by norm_num) ?_
  refine up_at 8 (by norm_num) (by norm_num) (by decide) (by decide) (by decide) rfl (by norm_num) ?_
  refine up_at 16 (by norm_num) (by norm_num) (by decide) (by decide) (by decide) rfl (by norm_num) ?_
  refine up_at 32 (by norm_num) (by norm_num) (by decide) (by decide) (by decide) rfl (by norm_num) ?_
  refine up_at 64 (by norm_num) (by norm_num) (by decide) (by decide) (by decide) rfl (by norm_num) ?_
  refine down_at 1 (by norm_num) (by norm_num) (by decide) (by decide) (by decide) (by norm_num) rfl (by norm_num) ?_
  refine down_at 2 (by norm_num) (by norm_num) (by decide) (by decide) (by decide) (by norm_num) rfl (by norm_num) ?_
  refine down_at 4 (by norm_num) (by norm_num) (by decide) (by decide) (by decide) (by norm_num) rfl (by norm_num) ?_
  refine down_at 8 (by norm_num) (by norm_num) (by decide) (by decide) (by decide) (by norm_num) rfl (by norm_num) ?_
  refine down_at 16 (by norm_num) (by norm_num) (by decide) (by decide) (by decide) (by norm_num) rfl (by norm_num) ?_
  refine down_at 32 (by norm_num) (by norm_num) (by decide) (by decide) (by decide) (by norm_num) rfl (by norm_num) ?_
  exact down_at 64 (by norm_num) (by norm_num) (by decide) (by decide) (by decide) (by norm_num) rfl (by norm_num) h0

/-- The exponent that the normalisation counts is that of a normal float. -/
theorem exponent_range {a m : ℝ} {s : ℤ} (ha : a = m * 2 ^ s) (hm1 : 1 ≤ m) (hm2 : m < 2) (h1 : (2 : ℝ) ^ (-126 : ℤ) ≤ a)
    (h2 : a < 2 ^ (128 : ℕ)) : -126 ≤ s ∧ s ≤ 127 := by
  have hs : (0 : ℝ) < 2 ^ s := zpow_pos (by norm_num) s
  constructor
  · by_contra h
    have h3 : (2 : ℝ) ^ (s + 1) ≤ 2 ^ (-126 : ℤ) := zpow_le_zpow_right₀ (by norm_num) (by omega)
    rw [zpow_add_one₀ (by norm_num)] at h3
    have h4 := mul_lt_mul_of_pos_right hm2 hs
    generalize (2 : ℝ) ^ (-126 : ℤ) = u at *
    linarith
  · by_contra h
    have h3 : (2 : ℝ) ^ (128 : ℤ) ≤ 2 ^ s := zpow_le_zpow_right₀ (by norm_num) (by omega)
    rw [show (128 : ℤ) = ((128 : ℕ) : ℤ) from rfl, zpow_natCast] at h3
    have h4 := le_mul_of_one_le_left hs.le hm1
    generalize (2 : ℝ) ^ (128 : ℕ) = u at *
    linarith

/-- The bits made from the normalised value: the exponent field, then the fraction. -/
theorem rawBits_eq (A : FVec Ideal S8x128 .f32) (x : S8x128.Idx) (a : ℝ) (hA : A x = (a : EReal)) (h1 : (2 : ℝ) ^ (-126 : ℤ) ≤ a)
    (h2 : a < 2 ^ (128 : ℕ)) : ∃ (m : ℝ) (s : ℤ) (E f : ℕ), a = m * 2 ^ s ∧ 1 ≤ m ∧ m < 2 ∧ -126 ≤ s ∧ s ≤ 127 ∧ (E : ℤ) = s + 127
      ∧ f < 8388608 ∧ (6291456 ≤ f ↔ 7 / 4 ≤ m) ∧ rawBits A x = BitVec.ofNat 32 (E * 8388608 + f) := by
  obtain ⟨m, s, hm, ha, he, hl, hh⟩ := normal_at A x a hA h1 h2
  obtain ⟨hs1, hs2⟩ := exponent_range ha hl hh h1 h2
  have hf0 : (0 : ℝ) ≤ (m - 1) * 8388608 := by nlinarith
  have hfl : (0 : ℤ) ≤ ⌊(m - 1) * 8388608⌋ := Int.floor_nonneg.2 hf0
  have hfu : ⌊(m - 1) * 8388608⌋ < 8388608 := by rw [Int.floor_lt]; push_cast; nlinarith
  have hfm : (6291456 : ℤ) ≤ ⌊(m - 1) * 8388608⌋ ↔ 7 / 4 ≤ m := by
    rw [Int.le_floor]; push_cast; constructor <;> intro h <;> nlinarith
  obtain ⟨f, hf⟩ := Int.eq_ofNat_of_zero_le hfl
  rw [hf] at hfu hfm
  refine ⟨m, s, (s + 127).toNat, f, ha, hl, hh, hs1, hs2, by omega, by omega, by rw [← hfm]; omega, ?_⟩
  have e1 : Ideal.ofBits .f32 0x3F800000#32 = ((1 : ℝ) : EReal) := by
    rw [show (0x3F800000#32) = BitVec.ofNat 32 (127 * 8388608) by decide, ofBits_pow _ (by norm_num) (by norm_num)]; norm_num
  have e2 : Ideal.ofBits .f32 0x4B000000#32 = ((8388608 : ℝ) : EReal) := by
    rw [show (0x4B000000#32) = BitVec.ofNat 32 (150 * 8388608) by decide, ofBits_pow _ (by norm_num) (by norm_num)]; norm_num
  unfold rawBits
  generalize normal A = p at *
  have ec : Ideal.fptosi 32 ((p.1 x - Ideal.ofBits .f32 0x3F800000#32) * Ideal.ofBits .f32 0x4B000000#32) = BitVec.ofInt 32 f := by
    rw [hm, e1, e2, ← EReal.coe_sub, ← EReal.coe_mul]
    unfold Ideal.fptosi
    rw [Ideal.toIntClamped_coe, if_pos hf0, hf]
    congr 1
    have : ((2 ^ (32 - 1) : ℕ) : ℤ) = 2147483648 := by norm_num
    rw [this]
    omega
  have e0 : addi (shli p.2 (broadcast S8x128 23#32))
      (fptosi 32 (mulf (subf p.1 (broadcast S8x128 (Scalar.ofBits .f32 0x3F800000#32)))
        (broadcast S8x128 (Scalar.ofBits .f32 0x4B000000#32)))) x
      = IntOp.shli .vector (p.2 x) 23#32
        + Ideal.fptosi 32 ((p.1 x - Ideal.ofBits .f32 0x3F800000#32) * Ideal.ofBits .f32 0x4B000000#32) := rfl
  rw [e0, ec, he]
  have hE : BitVec.ofInt 32 (127 + s) = BitVec.ofNat 32 (s + 127).toNat := by
    rw [show 127 + s = (((s + 127).toNat : ℕ) : ℤ) by omega, BitVec.ofInt_natCast]
  rw [hE, BitVec.ofInt_natCast]
  have hEb : (s + 127).toNat < 255 := by omega
  generalize (s + 127).toNat = E at *
  apply BitVec.eq_of_toNat_eq
  unfold IntOp.shli
  rw [if_pos (by decide)]
  simp only [BitVec.toNat_add, BitVec.toNat_ofNat, BitVec.shiftLeft_eq', BitVec.toNat_shiftLeft, Nat.shiftLeft_eq]
  norm_num

end Cert.Proof.KernelIdeal
-- ==== Proof.KernelCode.lean ====
module

public import proofs.«01_k».proof.Proof.Normalise

/-!
The kernel's scale code and multiplier at one magnitude: those of the mathematics.
-/

@[expose] public section

noncomputable section

namespace Cert.Proof.KernelIdeal

open Cert.KernelIdeal Cert.KernelIdeal.Gen
open Idealize.ShloMosaic Idealize.ShloMosaic.TcCoe Idealize.ShloMosaic.Tactic
open Idealize.ShloMosaic.ValueIdx

/-- The code from the bits. -/
def wordCode (b : BitVec 32) : BitVec 32 :=
  if (81788928#32).sle b && b.slt 2139095040#32 then ((b + 2097152#32) >>> 23) - 8#32 else 127#32

theorem codeOf_apply {F : FTy → Type} [FloatOps F] (A : FVec F S8x128 .f32) (x : S8x128.Idx) : codeOf A x = wordCode (bitsOf A x) := by
  unfold codeOf
  generalize bitsOf A = b
  have e : select (andi (cmpi .sge b (broadcast S8x128 81788928#32)) (cmpi .slt b (broadcast S8x128 2139095040#32)))
      (subi (shrui (addi b (broadcast S8x128 2097152#32)) (broadcast S8x128 23#32)) (broadcast S8x128 8#32))
      (broadcast S8x128 127#32) x = Scalar.select (BitVec.ofBool ((81788928#32).sle (b x)) &&& BitVec.ofBool ((b x).slt 2139095040#32))
        (((b x + 2097152#32) >>> (23#32)) - 8#32) 127#32 := rfl
  rw [e, BitVec.ofBool_and_ofBool, select_ofBool]
  rfl

/-- The code from an exponent field and a fraction. -/
theorem wordCode_fields (E f : ℕ) (hE : 1 ≤ E) (hE' : E < 255) (hf : f < 8388608) :
    wordCode (BitVec.ofNat 32 (E * 8388608 + f))
      = if E < 9 ∨ (E = 9 ∧ f < 6291456) then 127#32 else BitVec.ofInt 32 ((E : ℤ) - 8 + (if f < 6291456 then 0 else 1)) := by
  have hn : E * 8388608 + f < 2147483648 := by omega
  have ei : (BitVec.ofNat 32 (E * 8388608 + f)).toInt = ((E * 8388608 + f : ℕ) : ℤ) := by
    have en : (BitVec.ofNat 32 (E * 8388608 + f)).toNat = E * 8388608 + f := by rw [BitVec.toNat_ofNat]; omega
    rw [BitVec.toInt_eq_toNat_of_lt (by rw [en]; omega), en]
  have c2 : (BitVec.ofNat 32 (E * 8388608 + f)).slt 2139095040#32 = true := by
    rw [BitVec.slt_eq_decide, ei, show (2139095040#32).toInt = 2139095040 by decide]; simp only [decide_eq_true_eq]; omega
  unfold wordCode
  rw [c2, Bool.and_true]
  by_cases h : E < 9 ∨ (E = 9 ∧ f < 6291456)
  · rw [if_pos h, if_neg]
    rw [BitVec.sle_eq_decide, ei, show (81788928#32).toInt = 81788928 by decide]; simp only [decide_eq_true_eq]; omega
  · rw [if_neg h, if_pos]
    · have e3 : (BitVec.ofNat 32 (E * 8388608 + f) + 2097152#32) >>> 23 = BitVec.ofNat 32 (E + (if f < 6291456 then 0 else 1)) := by
        apply BitVec.eq_of_toNat_eq
        rw [BitVec.toNat_ushiftRight, BitVec.toNat_add, BitVec.toNat_ofNat, BitVec.toNat_ofNat, BitVec.toNat_ofNat, Nat.shiftRight_eq_div_pow]
        split <;> omega
      rw [e3, ← BitVec.ofInt_natCast, show (8#32) = BitVec.ofInt 32 8 by decide, BitVec.sub_eq_add_neg, ← BitVec.ofInt_neg, ← BitVec.ofInt_add]
      congr 1
      by_cases hf2 : f < 6291456 <;> simp only [hf2, if_true, if_false] <;> push_cast <;> omega
    · rw [BitVec.sle_eq_decide, ei, show (81788928#32).toInt = 81788928 by decide]; simp only [decide_eq_true_eq]; omega

theorem ofBits_normal : Ideal.ofBits .f32 0x00800000#32 = (((2 : ℝ) ^ (-126 : ℤ) : ℝ) : EReal) := by
  rw [show (0x00800000#32) = BitVec.ofNat 32 (1 * 8388608) by decide, ofBits_pow _ (by norm_num) (by norm_num)]; norm_num

theorem ofBits_max : Ideal.ofBits .f32 0x7F7FFFFF#32 = ((Spec.f32Max : ℝ) : EReal) := by
  unfold Ideal.ofBits Ideal.ieee Spec.f32Max
  dsimp only
  rw [show (8 + 23 : ℕ) = 31 from rfl, show ((0x7F7FFFFF#32).extractLsb' 31 1 == 1#1) = false by decide,
    show ((0x7F7FFFFF#32).extractLsb' 23 8).toNat = 254 by decide, show ((0x7F7FFFFF#32).extractLsb' 0 23).toNat = 8388607 by decide]
  rw [if_neg (by norm_num), if_neg (by omega)]
  congr 1
  norm_num

theorem f32Max_lt : Spec.f32Max < 2 ^ (128 : ℕ) := by unfold Spec.f32Max; norm_num

theorem normal_le_tiny : (2 : ℝ) ^ (-126 : ℤ) ≤ Spec.tiny := by unfold Spec.tiny; norm_num

/-- The bits of a magnitude by its size. -/
theorem bitsOf_apply (A : FVec Ideal S8x128 .f32) (x : S8x128.Idx) : bitsOf A x
    = if A x < (((2 : ℝ) ^ (-126 : ℤ) : ℝ) : EReal) then 0#32
      else if A x ≤ ((Spec.f32Max : ℝ) : EReal) then rawBits A x else 2139095040#32 := by
  unfold bitsOf
  generalize rawBits A = b
  have e : select (cmpf .olt A (broadcast S8x128 (Scalar.ofBits .f32 0x00800000#32))) (broadcast S8x128 0#32)
    (select (cmpf .ole A (broadcast S8x128 (Scalar.ofBits .f32 0x7F7FFFFF#32))) b (broadcast S8x128 2139095040#32)) x
    = Scalar.select (Ideal.cmp .olt (A x) (Ideal.ofBits .f32 0x00800000#32)) 0#32
      (Scalar.select (Ideal.cmp .ole (A x) (Ideal.ofBits .f32 0x7F7FFFFF#32)) (b x) 2139095040#32) := rfl
  rw [e, ofBits_normal, ofBits_max]
  simp only [Ideal.cmp, select_ofBool, decide_eq_true_eq]

/-- The kernel's code is the code of the magnitude. -/
theorem codeOf_eq (A : FVec Ideal S8x128 .f32) (x : S8x128.Idx) (h0 : 0 ≤ A x) : codeOf A x = Spec.code (A x) := by
  rw [codeOf_apply, bitsOf_apply]
  by_cases h1 : A x < (((2 : ℝ) ^ (-126 : ℤ) : ℝ) : EReal)
  · rw [if_pos h1]
    have : A x < (Spec.tiny : EReal) := lt_of_lt_of_le h1 (EReal.coe_le_coe_iff.2 normal_le_tiny)
    unfold Spec.code Spec.expo
    rw [if_pos (Or.inl this)]
    decide
  rw [if_neg h1]
  by_cases h2 : A x ≤ ((Spec.f32Max : ℝ) : EReal)
  · rw [if_pos h2]
    have hr : ∃ a : ℝ, A x = (a : EReal) := by
      refine ⟨(A x).toReal, (EReal.coe_toReal ?_ ?_).symm⟩
      · intro h; rw [h] at h2; exact absurd h2 (by simp)
      · intro h; rw [h] at h0; exact absurd h0 (by simp)
    obtain ⟨a, ha⟩ := hr
    rw [ha] at h1 h2
    have h1' : (2 : ℝ) ^ (-126 : ℤ) ≤ a := not_lt.1 (fun h => h1 (EReal.coe_lt_coe_iff.2 h))
    have h2' : a ≤ Spec.f32Max := EReal.coe_le_coe_iff.1 h2
    obtain ⟨m, s, E, f, e1, hm1, hm2, hs1, hs2, hE, hf, hfm, eb⟩ := rawBits_eq A x a ha h1' (lt_of_le_of_lt h2' f32Max_lt)
    rw [eb, wordCode_fields E f (by omega) (by omega) hf, ha]
    unfold Spec.code
    rw [Spec.expo_of m s hm1 hm2 hs1 hs2 a e1 h2']
    by_cases hb : 7 / 4 ≤ m
    · have hf' := hfm.2 hb
      have c2 : ¬ f < 6291456 := not_lt.2 hf'
      have c4 : ¬ m < 7 / 4 := not_lt.2 hb
      by_cases hc : E < 9
      · have c3 : s < -118 := by omega
        rw [if_pos (Or.inl hc), if_pos (Or.inl c3)]; decide
      · have c1 : ¬ (E < 9 ∨ (E = 9 ∧ f < 6291456)) := by omega
        have c3 : ¬ (s < -118 ∨ (s = -118 ∧ m < 7 / 4)) := by
          rintro (h | ⟨-, h⟩)
          · omega
          · exact c4 h
        rw [if_neg c1, if_neg c3, if_neg c2, if_neg c4]
        congr 1; omega
    · have c2 : f < 6291456 := not_le.1 fun h => hb (hfm.1 h)
      have c4 : m < 7 / 4 := not_le.1 hb
      by_cases hc : E ≤ 9
      · have c1 : E < 9 ∨ (E = 9 ∧ f < 6291456) := by omega
        have c3 : s < -118 ∨ (s = -118 ∧ m < 7 / 4) := by
          rcases Nat.lt_or_eq_of_le hc with h | h
          · exact Or.inl (by omega)
          · exact Or.inr ⟨by omega, c4⟩
        rw [if_pos c1, if_pos c3]; decide
      · have c1 : ¬ (E < 9 ∨ (E = 9 ∧ f < 6291456)) := by omega
        have c3 : ¬ (s < -118 ∨ (s = -118 ∧ m < 7 / 4)) := by
          rintro (h | ⟨h, -⟩) <;> omega
        rw [if_neg c1, if_neg c3, if_pos c2, if_pos c4]
        congr 1; omega
  · rw [if_neg h2]
    unfold Spec.code Spec.expo
    rw [if_pos (Or.inr (not_le.1 h2))]
    decide

/-- The word that carries a multiplier's pattern twice. -/
def invWord (c : BitVec 32) : BitVec 32 := ((254#32 - c) <<< 7) ||| (((254#32 - c) <<< 7) <<< 16)

theorem invWord_halves : ∀ c : Fin 256, 0 < c.val → c.val < 254 → ∀ h : Fin 2,
    (invWord (BitVec.ofNat 32 c.val)).extractLsb' (16 * h.val) 16 = BitVec.ofNat 16 ((254 - c.val) * 128) := by decide +kernel

theorem bf16_fields : ∀ n : Fin 255, ((BitVec.ofNat 16 (n.val * 128)).extractLsb' 15 1 == 1#1) = false
    ∧ ((BitVec.ofNat 16 (n.val * 128)).extractLsb' 7 8).toNat = n.val
    ∧ ((BitVec.ofNat 16 (n.val * 128)).extractLsb' 0 7).toNat = 0 := by decide +kernel

/-- A 16-bit float with no fraction is a power of two. -/
theorem ofBits_bf16_pow (n : ℕ) (h0 : 0 < n) (h1 : n < 255) :
    Ideal.ofBits .bf16 (BitVec.ofNat 16 (n * 128)) = (((2 : ℝ) ^ ((n : ℤ) - 127) : ℝ) : EReal) := by
  obtain ⟨a, b, c⟩ := bf16_fields ⟨n, h1⟩
  simp only at a b c
  unfold Ideal.ofBits Ideal.ieee
  dsimp only
  rw [show (8 + 7 : ℕ) = 15 from rfl, a, b, c]
  rw [if_neg (by norm_num; omega), if_neg (by omega)]
  congr 1
  have : ((n : ℤ) - (2 ^ (8 - 1) - 1) - (7 : ℕ)) = ((n : ℤ) - 127) - 7 := by norm_num
  rw [this, zpow_sub₀ (by norm_num) ((n : ℤ) - 127) 7]
  norm_num
  ring

/-- Each half of the word of a magnitude's code is its multiplier. -/
theorem half_eq (a : EReal) (h0 : 0 ≤ a) (h : ℕ) (hh : h < 2) :
    Ideal.ofBits .bf16 ((invWord (Spec.code a)).extractLsb' (16 * h) 16) = Spec.mult a := by
  obtain ⟨l, u⟩ := Spec.expo_bounds a h0
  unfold Spec.code Spec.mult
  generalize Spec.expo a = e at *
  obtain ⟨n, hn⟩ := Int.eq_ofNat_of_zero_le (show 0 ≤ e + 127 by omega)
  rw [hn, BitVec.ofInt_natCast, invWord_halves ⟨n, by omega⟩ (by show 0 < n; omega) (by show n < 254; omega) ⟨h, hh⟩, ofBits_bf16_pow _ (by show 0 < 254 - n; omega) (by show 254 - n < 255; omega)]
  congr 2
  show ((254 - n : ℕ) : ℤ) - 127 = -e
  omega

end Cert.Proof.KernelIdeal
-- ==== Proof.QuantRead.lean ====
module

public import proofs.«01_k».proof.Proof.Planes
public import proofs.«01_k».proof.Proof.SlabRead
public import proofs.«01_k».proof.Proof.KernelCode
public import Idealize.ShloMosaic.Lib.BitcastPair
public import Idealize.ShloMosaic.Lib.Pointwise
public import Idealize.ShloMosaic.Lib.MatmulPlain

/-!
The scaled and clipped values, read at an index, and their transposition by a product with the identity matrix.
-/

@[expose] public section

noncomputable section

namespace Cert.Proof.KernelIdeal

open Cert.KernelIdeal Cert.KernelIdeal.Gen
open Idealize.ShloMosaic hiding ix2 ix3 ix4
open Idealize.ShloMosaic.TcCoe Idealize.ShloMosaic.Tactic
open Idealize.ShloMosaic.ValueIdx

/-- A row of multipliers read, spread over eight rows, after the plane is written. -/
theorem inv_read {F : FTy → Type} [FloatOps F] (arg9 : Memref sig .tc .vmem S16x4x8x128 .i32) (o o' : Fin 4 → ℕ) (h : o = o') (ib ib')
    (hr) (g : arg9.view.ty.Contents (Elt F)) (w : Vec F S1x1x8x128 .i32) (b : Fin 8) (inb) (r : Fin 8) (l : Fin 128) :
    ((arg9.slice (Rect.unit (s := S16x4x8x128) o' S1x1x8x128.size ib') hr).squeeze S8x128 squeezes_S1x1x8x128_S8x128).view.readAt (Elt F)
      { off := ![b.val, 0], size := S8x128.size, stride := ![0, 1], inb := inb }
      (View.write (Elt F) (arg9.access (Rect.unit (s := S16x4x8x128) o S1x1x8x128.size ib)) g w Finset.univ) (ix2 r l)
      = w (ix4 (0 : Fin 1) (0 : Fin 1) b l) := by
  subst h
  rw [View.readAt_apply, Memref.read_squeeze_slice _ _ _ _ shapeCasts_S1x1x8x128_S8x128]
  have e : arg9.view.readAt (Elt F) (Rect.unit (s := S16x4x8x128) o S1x1x8x128.size ib).toLoadRect
      (View.write (Elt F) (arg9.access (Rect.unit (s := S16x4x8x128) o S1x1x8x128.size ib)) g w Finset.univ) = w :=
    View.read_write_univ (v := arg9.view.slice (Rect.unit (s := S16x4x8x128) o S1x1x8x128.size ib)) g w
  rw [e]
  refine shapeCast_apply w shapeCasts_S1x1x8x128_S8x128 _ _ ?_
  rw [Shape.rowMajor_val_two, Shape.rowMajor_val_four]
  show ((0 * 1 + 0) * 8 + b.val) * 128 + l.val = (b.val + 0 * r.val) * 128 + (0 + 1 * l.val)
  omega

/-- The multiplier word of a magnitude. -/
theorem invOf_apply {F : FTy → Type} [FloatOps F] (A : FVec F S8x128 .f32) (b : Fin 8) (l : Fin 128) :
    invOf A (ix4 (0 : Fin 1) (0 : Fin 1) b l) = invWord (codeOf A (ix2 b l)) := by
  unfold invOf
  refine (shapeCast_apply _ shapeCasts_S8x128_S1x1x8x128 _ (ix2 b l) ?_).trans ?_
  · rw [Shape.rowMajor_val_two, Shape.rowMajor_val_four]
    show b.val * 128 + l.val = ((0 * 1 + 0) * 8 + b.val) * 128 + l.val
    omega
  · generalize codeOf A = c
    rfl

theorem ofBits_448 : Ideal.ofBits .f32 0x43E00000#32 = ((448 : ℝ) : EReal) := by
  unfold Ideal.ofBits Ideal.ieee
  dsimp only
  rw [show (8 + 23 : ℕ) = 31 from rfl, show ((0x43E00000#32).extractLsb' 31 1 == 1#1) = false by decide,
    show ((0x43E00000#32).extractLsb' 23 8).toNat = 135 by decide, show ((0x43E00000#32).extractLsb' 0 23).toNat = 6291456 by decide]
  rw [if_neg (by norm_num), if_neg (by omega)]
  congr 1
  norm_num

theorem ofBits_neg448 : Ideal.ofBits .f32 0xC3E00000#32 = ((-448 : ℝ) : EReal) := by
  unfold Ideal.ofBits Ideal.ieee
  dsimp only
  rw [show (8 + 23 : ℕ) = 31 from rfl, show ((0xC3E00000#32).extractLsb' 31 1 == 1#1) = true by decide,
    show ((0xC3E00000#32).extractLsb' 23 8).toNat = 135 by decide, show ((0xC3E00000#32).extractLsb' 0 23).toNat = 6291456 by decide]
  rw [if_neg (by norm_num), if_neg (by omega)]
  congr 1
  norm_num

/-- A block scaled by a row of multipliers. -/
theorem scaled_apply (z : FVec Ideal S32x128 .bf16) (w : Vec Ideal S8x128 .i32) (a : EReal) (h0 : 0 ≤ a) (r : Fin 32) (l : Fin 128)
    (hw : ∀ q : Fin 8, w (ix2 q l) = invWord (Spec.code a)) : scaled z w (ix2 r l) = Spec.quant (z (ix2 r l)) a := by
  unfold scaled
  set s : FVec Ideal S16x128 .bf16 := bitcastToFloat .bf16 (bitcast S16x128 16 w bitcasts_S8x128_w32_S16x128_w16) with hs
  have es : ∀ q : Fin 16, s (ix2 q l) = Spec.mult a := by
    intro q
    rw [hs, bitcastToFloat_apply, bitcast_32_16]
    have e : ∀ (p : ℕ) (hp), w (bitcasts_S8x128_w32_S16x128_w16.srcIdx (ix2 q l) p hp) = invWord (Spec.code a) := by
      intro p hp
      rw [← hw ⟨p, hp 0 rfl⟩]
      congr 1
      funext x
      match x with
      | ⟨0, _⟩ => rfl
      | ⟨1, _⟩ => rfl
    rw [e]
    exact half_eq a h0 _ (Nat.mod_lt _ (by norm_num))
  have ec : (concatenate S32x128 0 [⟨S16x128, s⟩, ⟨S16x128, s⟩] concatenates_S16x128_S16x128_S32x128_d0 : FVec Ideal S32x128 .bf16) (ix2 r l) = Spec.mult a := by
    rw [concatenate_cons_apply, concatenateAt_cons]
    split
    · rename_i h
      rw [← es ⟨r.val, h⟩]
      congr 1
      funext x
      match x with
      | ⟨0, _⟩ => rfl
      | ⟨1, _⟩ => rfl
    · rw [concatenateAt_singleton]
      rename_i h
      have hr := r.isLt
      rw [← es ⟨r.val - 16, by omega⟩]
      congr 1
      funext x
      match x with
      | ⟨0, _⟩ => rfl
      | ⟨1, _⟩ => rfl
  show min (Ideal.ofBits .f32 0x43E00000#32) (max (Ideal.ofBits .f32 0xC3E00000#32) (z (ix2 r l) *
    (concatenate S32x128 0 [⟨S16x128, s⟩, ⟨S16x128, s⟩] concatenates_S16x128_S16x128_S32x128_d0 : FVec Ideal S32x128 .bf16) (ix2 r l))) = _
  rw [ofBits_448, ofBits_neg448, ec]
  rfl

/-- Blocks of 32 rows under one another, at a row. -/
theorem slabs_at {α : Type} {t : Shape} (a : Fin t.rank) (ha : a.val = 0) (j : t.Idx) (l : Fin 128) (hl : ∀ b : Fin t.rank, b.val = 1 → (j b).val = l.val) :
    ∀ (qs : List (S32x128.Idx → α)) (hs) (c : ℕ) (hc) (n : Fin qs.length) (r : Fin 32), c = 32 * n.val + r.val →
      concatenateAt t a j (qs.map fun q => (⟨S32x128, q⟩ : (s : Shape) × (s.Idx → α))) hs c hc = qs[n] (ix2 r l)
  | [], _, _, _, n, _, _ => n.elim0
  | [q], hs, c, hc, n, r, h => by
    have hn : n = 0 := Fin.ext (by have := n.isLt; simp only [List.length_singleton] at this; show n.val = 0; omega)
    subst hn
    refine (concatenateAt_singleton a j q hs c hc).trans ?_
    show q _ = q _
    congr 1
    funext x
    match x with
    | ⟨0, _⟩ =>
      apply Fin.ext
      show (if (0 : ℕ) = a.val then c else _) = r.val
      rw [if_pos ha.symm, h]; simp
    | ⟨1, _⟩ =>
      apply Fin.ext
      show (if (1 : ℕ) = a.val then c else _) = l.val
      rw [if_neg (by omega)]
      exact hl _ rfl
  | q :: q' :: qs, hs, c, hc, n, r, h => by
    have hr := r.isLt
    refine (concatenateAt_cons a j q ⟨S32x128, q'⟩ (qs.map fun q => (⟨S32x128, q⟩ : (s : Shape) × (s.Idx → α))) hs c hc).trans ?_
    have es : ∀ b : Fin 2, b.val = a.val → S32x128.size b = 32 := by
      intro b hb
      rw [ha] at hb
      match b with
      | ⟨0, _⟩ => rfl
    split
    · rename_i hlt
      rw [es _ rfl] at hlt
      have hn : n = ⟨0, by simp⟩ := Fin.ext (by show n.val = 0; omega)
      subst hn
      show q _ = q _
      congr 1
      funext x
      match x with
      | ⟨0, _⟩ =>
        apply Fin.ext
        show (if (0 : ℕ) = a.val then c else _) = r.val
        rw [if_pos ha.symm, h]; simp
      | ⟨1, _⟩ =>
        apply Fin.ext
        show (if (1 : ℕ) = a.val then c else _) = l.val
        rw [if_neg (by omega)]
        exact hl _ rfl
    · rename_i hlt
      rw [es _ rfl] at hlt
      obtain ⟨n, hn⟩ := n
      match n with
      | 0 => exact absurd h (by show c ≠ 32 * 0 + r.val; omega)
      | n + 1 =>
        have h' : c = 32 * (n + 1) + r.val := h
        refine slabs_at a ha j l hl (q' :: qs) _ _ _ ⟨n, by simpa using hn⟩ r ?_
        rw [es _ rfl]
        show c - 32 = 32 * n + r.val
        omega

/-- A stack of eight blocks. -/
theorem stack8_apply (q0 q1 q2 q3 q4 q5 q6 q7 : FVec Ideal S32x128 .fp8e4m3) (b : Fin 8) (r : Fin 32) (l : Fin 128) (R : Fin 256)
    (hR : R.val = 32 * b.val + r.val) : stack8 q0 q1 q2 q3 q4 q5 q6 q7 (ix2 R l) = pick8 q0 q1 q2 q3 q4 q5 q6 q7 b (ix2 r l) := by
  unfold stack8
  rw [concatenate_cons_apply]
  refine (slabs_at (t := S256x128) 0 rfl (ix2 R l) l (fun b hb => ?_) [q0, q1, q2, q3, q4, q5, q6, q7] _ _ _ b r hR).trans ?_
  · match b with
    | ⟨1, _⟩ => rfl
  · match b with
    | 0 => rfl | 1 => rfl | 2 => rfl | 3 => rfl | 4 => rfl | 5 => rfl | 6 => rfl | 7 => rfl

/-- The product with the identity matrix transposes. -/
theorem swapped_apply (p q : FVec Ideal S256x128 .fp8e4m3) (a b : Fin 256) :
    swapped p q (ix2 a b) = if h : a.val < 128 then p (ix2 b ⟨a.val, h⟩) else q (ix2 b ⟨a.val - 128, by have := a.isLt; omega⟩) := by
  have heye : ∀ k : Fin 256, (k0_pay1 (F := Ideal) (ix2 a k) : EReal) = if a = k then 1 else 0 := by
    intro k
    unfold k0_pay1
    show (((((IntOp.cmpi .eq (BitVec.ofNat 32 (0 * 256 + a.val) + 0#32) (BitVec.ofNat 32 (0 * 256 + k.val))).setWidth 32).toInt : ℝ) : EReal)) = _
    rw [Nat.zero_mul, Nat.zero_add, Nat.zero_add]
    have e : (IntOp.cmpi .eq (BitVec.ofNat 32 a.val + 0#32) (BitVec.ofNat 32 k.val)) = BitVec.ofBool (decide (a = k)) := by
      unfold IntOp.cmpi
      dsimp only
      congr 1
      rw [BitVec.add_zero, beq_eq_decide]
      congr 1
      apply propext
      constructor
      · intro h
        have := congrArg BitVec.toNat h
        rw [BitVec.toNat_ofNat, BitVec.toNat_ofNat] at this
        have := a.isLt; have := k.isLt
        exact Fin.ext (by omega)
      · rintro rfl; rfl
    rw [e]
    by_cases h : a = k <;> simp [h]
  unfold swapped
  show FloatOps.matmul (DotDims.transposedRhs 256 256 256) none (k0_pay1 (F := Ideal)) (concatenate S256x256 1 [⟨S256x128, p⟩, ⟨S256x128, q⟩] concatenates_S256x128_S256x128_S256x256_d1)
    (constant S256x256 .f32 0x00000000#32) (ix2 a b) = _
  rw [Ideal.matmul_transposedRhs_apply, Finset.sum_eq_single a]
  · rw [heye, if_pos rfl, one_mul]
    have e0 : (constant S256x256 .f32 0x00000000#32 : FVec Ideal S256x256 .f32) (ix2 a b) = 0 := by
      show Ideal.ofBits .f32 0x00000000#32 = 0
      simp [Ideal.ofBits, Ideal.ieee]
    rw [e0, zero_add, concatenate_cons_apply, concatenateAt_cons]
    have ha := a.isLt
    split
    · rename_i h
      refine Eq.trans ?_ (dif_pos (show a.val < 128 from h)).symm
      congr 1
      funext x
      match x with
      | ⟨0, _⟩ => rfl
      | ⟨1, _⟩ => rfl
    · rename_i h
      rw [concatenateAt_singleton]
      refine Eq.trans ?_ (dif_neg (show ¬ a.val < 128 from h)).symm
      congr 1
      funext x
      match x with
      | ⟨0, _⟩ => rfl
      | ⟨1, _⟩ => rfl
  · intro k _ hk
    rw [heye, if_neg (Ne.symm hk), zero_mul]
  · intro h; exact absurd (Finset.mem_univ a) h

end Cert.Proof.KernelIdeal
-- ==== Proof.TripRead.lean ====
module

public import proofs.«01_k».proof.Proof.QuantRead

/-!
What a trip stores, read at an index, as the quantiser of the mathematics at the elements of the two input blocks.
-/

@[expose] public section

noncomputable section

namespace Cert.Proof.KernelIdeal

open Cert.KernelIdeal Cert.KernelIdeal.Gen
open Idealize.ShloMosaic hiding ix2 ix3 ix4
open Idealize.ShloMosaic.TcCoe Idealize.ShloMosaic.Tactic
open Idealize.ShloMosaic.ValueIdx
open tripV.sl

/-- The element of the two input blocks side by side, by natural numbers. -/
def tile (x0 x1 : S4096x128.Idx → EReal) (R C : ℕ) : EReal :=
  if h : R < 4096 ∧ C < 128 then x0 (ix2 (⟨R, h.1⟩ : Fin 4096) (⟨C, h.2⟩ : Fin 128))
  else if h : R < 4096 ∧ C - 128 < 128 then x1 (ix2 (⟨R, h.1⟩ : Fin 4096) (⟨C - 128, h.2⟩ : Fin 128)) else 0

theorem tile_left (x0 x1 : S4096x128.Idx → EReal) (R : Fin 4096) (C : Fin 128) (r c : ℕ) (hr : r = R.val) (hc : c = C.val) :
    tile x0 x1 r c = x0 (ix2 R C) := by
  subst hr hc
  unfold tile
  rw [dif_pos ⟨R.isLt, C.isLt⟩]

theorem tile_right (x0 x1 : S4096x128.Idx → EReal) (R : Fin 4096) (C : Fin 128) (r c : ℕ) (hr : r = R.val) (hc : c = 128 + C.val) :
    tile x0 x1 r c = x1 (ix2 R C) := by
  subst hr hc
  unfold tile
  rw [dif_neg (by omega), dif_pos ⟨R.isLt, by have := C.isLt; omega⟩]
  congr 2
  exact Fin.ext (by show 128 + C.val - 128 = C.val; omega)

/-- The scaled value of a column's element: over the 32 rows of its block, -/
def colQuant (x0 x1 : S4096x128.Idx → EReal) (R C : ℕ) : EReal := Spec.quant (tile x0 x1 R C) (Spec.amax fun i => tile x0 x1 (32 * (R / 32) + i.val) C)
/-- and of a row's element: over the 32 columns of its block. -/
def rowQuant (x0 x1 : S4096x128.Idx → EReal) (R C : ℕ) : EReal := Spec.quant (tile x0 x1 R C) (Spec.amax fun i => tile x0 x1 R (32 * (C / 32) + i.val))
/-- The scale code of 32 rows of a column, -/
def colCode (x0 x1 : S4096x128.Idx → EReal) (B C : ℕ) : BitVec 32 := Spec.code (Spec.amax fun i => tile x0 x1 (32 * B + i.val) C)
/-- and of 32 columns of a row. -/
def rowCode (x0 x1 : S4096x128.Idx → EReal) (R B : ℕ) : BitVec 32 := Spec.code (Spec.amax fun i => tile x0 x1 R (32 * B + i.val))

theorem trips_lt (k : Fin k0_t1_loop.trips) : k.val < 16 := k.isLt

/-- A chunk's rows and columns. -/
theorem chunk_apply (arg : Memref sig .tc .vmem S4096x128 .bf16) (k : Fin k0_t1_loop.trips) (X : arg.view.ty.Contents (Elt Ideal)) (R : Fin 256) (l : Fin 128) :
    arg.view.readAt (Elt Ideal) (Rect.unit (s := S4096x128) (k0_off1 k) S256x128.size (k0_off1_inb k)).toLoadRect X (ix2 R l)
      = arg.view.read (Elt Ideal) X (ix2 (⟨256 * k.val + R.val, by have := trips_lt k; have := R.isLt; omega⟩ : Fin 4096) l) := by
  rw [View.readAt_apply]
  congr 1
  funext a
  match a with
  | ⟨0, _⟩ =>
    apply Fin.ext
    show k0_off1 k 0 + 1 * R.val = 256 * k.val + R.val
    rw [k0_off1_eq]; show 256 * k.val + 1 * R.val = _; omega
  | ⟨1, _⟩ =>
    apply Fin.ext
    show k0_off1 k 1 + 1 * l.val = l.val
    rw [k0_off1_eq]; show 0 + 1 * l.val = _; omega

theorem pay7_eq (v : Vec Ideal S256x128 .bf16) : k0_pay7 v = v := interleaveRows_rowsOfParity bitcasts_S256x128_w16_S128x128_w32 v
theorem pay8_eq (v : Vec Ideal S256x128 .bf16) : k0_pay8 v = v := interleaveRows_rowsOfParity bitcasts_S256x128_w16_S128x128_w32 v

/-- Thirty-two rows of a chunk. -/
theorem rows_apply (v : Vec Ideal S256x128 .bf16) (o : ℕ) (h : S256x128.Slices ![o, 0] S32x128) (r : Fin 32) (l : Fin 128) (hr : o + r.val < 256) :
    extractStridedSlice S32x128 ![o, 0] v h (ix2 r l) = v (ix2 (⟨o + r.val, hr⟩ : Fin 256) l) := by
  unfold extractStridedSlice
  congr 1
  funext a
  match a with
  | ⟨0, _⟩ => rfl
  | ⟨1, _⟩ => exact Fin.ext (by show 0 + l.val = l.val; omega)

/-- Thirty-two columns of 128 rows of a chunk, transposed. -/
theorem cols_apply (v : Vec Ideal S256x128 .bf16) (o p : ℕ) (h : S128x256.Slices ![o, p] S32x128) (r : Fin 32) (l : Fin 128) (hr : o + r.val < 128) (hl : p + l.val < 256) :
    extractStridedSlice S32x128 ![o, p] (transpose S128x256 [1, 0] v transposes_S256x128_p1_0_S128x256) h (ix2 r l)
      = v (ix2 (⟨p + l.val, hl⟩ : Fin 256) (⟨o + r.val, hr⟩ : Fin 128)) := by
  unfold extractStridedSlice transpose
  congr 1
  funext a
  match a with
  | ⟨0, _⟩ => rfl
  | ⟨1, _⟩ => rfl

variable (c : Dev nD) (arg2 : Memref sig .tc .vmem S4096x128 .bf16) (arg3 : Memref sig .tc .vmem S4096x128 .bf16)
  (arg8 : Memref sig .tc .vmem S16x4x72x2x128 .bf16) (arg9 : Memref sig .tc .vmem S16x4x8x128 .i32)
  (k : Fin k0_t1_loop.trips) (X0 : Buf (Elt Ideal) (arg2.view.loc (c : Thread nD τ))) (X1 : Buf (Elt Ideal) (arg3.view.loc (c : Thread nD τ)))
  (g0 g1 g2 g3 : Buf (Elt Ideal) (arg9.view.loc (c : Thread nD τ)))

/-- The left input block's elements and the right's. -/
abbrev tl (R C : ℕ) : EReal := tile (arg2.view.read (Elt Ideal) X0) (arg3.view.read (Elt Ideal) X1) R C

/-- Group 0: columns of the left half. -/
theorem block0 (b : Fin 8) (r : Fin 32) (l : Fin 128) :
    pick8 (r_2 c arg2 k X0) (r_3 c arg2 k X0) (r_4 c arg2 k X0) (r_5 c arg2 k X0) (r_6 c arg2 k X0) (r_7 c arg2 k X0) (r_8 c arg2 k X0) (r_9 c arg2 k X0) b (ix2 r l)
      = tl c arg2 arg3 X0 X1 (32 * (8 * k.val + b.val) + r.val) l.val := by
  have hk := trips_lt k
  have hr := r.isLt
  have hb := b.isLt
  have key : ∀ (h : S256x128.Slices ![32 * b.val, 0] S32x128), extractStridedSlice S32x128 ![32 * b.val, 0]
      (k0_pay7 (arg2.view.readAt (Elt Ideal) (Rect.unit (s := S4096x128) (k0_off1 k) S256x128.size (k0_off1_inb k)).toLoadRect X0)) h (ix2 r l)
      = tl c arg2 arg3 X0 X1 (32 * (8 * k.val + b.val) + r.val) l.val := by
    intro h
    rw [pay7_eq, rows_apply _ _ _ _ _ (by omega), chunk_apply]
    exact (tile_left _ _ _ _ _ _ (by show _ = 256 * k.val + (32 * b.val + r.val); omega) rfl).symm
  match b with
  | 0 => exact key slices_S256x128_o0_0_S32x128
  | 1 => exact key slices_S256x128_o32_0_S32x128
  | 2 => exact key slices_S256x128_o64_0_S32x128
  | 3 => exact key slices_S256x128_o96_0_S32x128
  | 4 => exact key slices_S256x128_o128_0_S32x128
  | 5 => exact key slices_S256x128_o160_0_S32x128
  | 6 => exact key slices_S256x128_o192_0_S32x128
  | 7 => exact key slices_S256x128_o224_0_S32x128

/-- Group 1: columns of the right half. -/
theorem block1 (b : Fin 8) (r : Fin 32) (l : Fin 128) :
    pick8 (r_41 c arg3 k X1) (r_42 c arg3 k X1) (r_43 c arg3 k X1) (r_44 c arg3 k X1) (r_45 c arg3 k X1) (r_46 c arg3 k X1) (r_47 c arg3 k X1) (r_48 c arg3 k X1) b (ix2 r l)
      = tl c arg2 arg3 X0 X1 (32 * (8 * k.val + b.val) + r.val) (128 + l.val) := by
  have hk := trips_lt k
  have hr := r.isLt
  have hb := b.isLt
  have key : ∀ (h : S256x128.Slices ![32 * b.val, 0] S32x128), extractStridedSlice S32x128 ![32 * b.val, 0]
      (k0_pay8 (arg3.view.readAt (Elt Ideal) (Rect.unit (s := S4096x128) (k0_off1 k) S256x128.size (k0_off1_inb k)).toLoadRect X1)) h (ix2 r l)
      = tl c arg2 arg3 X0 X1 (32 * (8 * k.val + b.val) + r.val) (128 + l.val) := by
    intro h
    rw [pay8_eq, rows_apply _ _ _ _ _ (by omega), chunk_apply]
    exact (tile_right _ _ _ _ _ _ (by show _ = 256 * k.val + (32 * b.val + r.val); omega) rfl).symm
  match b with
  | 0 => exact key slices_S256x128_o0_0_S32x128
  | 1 => exact key slices_S256x128_o32_0_S32x128
  | 2 => exact key slices_S256x128_o64_0_S32x128
  | 3 => exact key slices_S256x128_o96_0_S32x128
  | 4 => exact key slices_S256x128_o128_0_S32x128
  | 5 => exact key slices_S256x128_o160_0_S32x128
  | 6 => exact key slices_S256x128_o192_0_S32x128
  | 7 => exact key slices_S256x128_o224_0_S32x128

/-- Thirty-two columns of 128 rows of the left half, transposed, -/
theorem left_cols (q p : ℕ) (hq : q < 4) (r : Fin 32) (l : Fin 128) (hp : p + l.val < 256) (h : S128x256.Slices ![32 * q, p] S32x128) :
    extractStridedSlice S32x128 ![32 * q, p] (k0_pay156 (k0_pay7 (arg2.view.readAt (Elt Ideal) (Rect.unit (s := S4096x128) (k0_off1 k) S256x128.size (k0_off1_inb k)).toLoadRect X0))) h (ix2 r l)
      = tl c arg2 arg3 X0 X1 (256 * k.val + (p + l.val)) (32 * q + r.val) := by
  have hr := r.isLt
  rw [pay7_eq]
  unfold k0_pay156
  rw [cols_apply _ _ _ _ _ _ (by omega) hp, chunk_apply]
  exact (tile_left _ _ _ _ _ _ rfl rfl).symm

/-- and of the right half. -/
theorem right_cols (q p : ℕ) (hq : q < 4) (r : Fin 32) (l : Fin 128) (hp : p + l.val < 256) (h : S128x256.Slices ![32 * q, p] S32x128) :
    extractStridedSlice S32x128 ![32 * q, p] (k0_pay157 (k0_pay8 (arg3.view.readAt (Elt Ideal) (Rect.unit (s := S4096x128) (k0_off1 k) S256x128.size (k0_off1_inb k)).toLoadRect X1))) h (ix2 r l)
      = tl c arg2 arg3 X0 X1 (256 * k.val + (p + l.val)) (32 * (q + 4) + r.val) := by
  have hr := r.isLt
  rw [pay8_eq]
  unfold k0_pay157
  rw [cols_apply _ _ _ _ _ _ (by omega) hp, chunk_apply]
  exact (tile_right _ _ _ _ _ _ rfl (by show _ = 128 + (32 * q + r.val); omega)).symm

/-- Group 2: the first 128 rows. -/
theorem block2 (b : Fin 8) (r : Fin 32) (l : Fin 128) :
    pick8 (r_80 c arg2 k X0) (r_81 c arg2 k X0) (r_82 c arg2 k X0) (r_83 c arg2 k X0) (r_84 c arg3 k X1) (r_85 c arg3 k X1) (r_86 c arg3 k X1) (r_87 c arg3 k X1) b (ix2 r l)
      = tl c arg2 arg3 X0 X1 (256 * k.val + (0 + l.val)) (32 * b.val + r.val) := by
  have hl := l.isLt
  have hp : 0 + l.val < 256 := by omega
  match b with
  | 0 => exact left_cols c arg2 arg3 k X0 X1 0 0 (by decide) r l hp slices_S128x256_o0_0_S32x128
  | 1 => exact left_cols c arg2 arg3 k X0 X1 1 0 (by decide) r l hp slices_S128x256_o32_0_S32x128
  | 2 => exact left_cols c arg2 arg3 k X0 X1 2 0 (by decide) r l hp slices_S128x256_o64_0_S32x128
  | 3 => exact left_cols c arg2 arg3 k X0 X1 3 0 (by decide) r l hp slices_S128x256_o96_0_S32x128
  | 4 => exact right_cols c arg2 arg3 k X0 X1 0 0 (by decide) r l hp slices_S128x256_o0_0_S32x128
  | 5 => exact right_cols c arg2 arg3 k X0 X1 1 0 (by decide) r l hp slices_S128x256_o32_0_S32x128
  | 6 => exact right_cols c arg2 arg3 k X0 X1 2 0 (by decide) r l hp slices_S128x256_o64_0_S32x128
  | 7 => exact right_cols c arg2 arg3 k X0 X1 3 0 (by decide) r l hp slices_S128x256_o96_0_S32x128

/-- Group 3: the last 128 rows. -/
theorem block3 (b : Fin 8) (r : Fin 32) (l : Fin 128) :
    pick8 (r_118 c arg2 k X0) (r_119 c arg2 k X0) (r_120 c arg2 k X0) (r_121 c arg2 k X0) (r_122 c arg3 k X1) (r_123 c arg3 k X1) (r_124 c arg3 k X1) (r_125 c arg3 k X1) b (ix2 r l)
      = tl c arg2 arg3 X0 X1 (256 * k.val + (128 + l.val)) (32 * b.val + r.val) := by
  have hl := l.isLt
  have hp : 128 + l.val < 256 := by omega
  match b with
  | 0 => exact left_cols c arg2 arg3 k X0 X1 0 128 (by decide) r l hp slices_S128x256_o0_128_S32x128
  | 1 => exact left_cols c arg2 arg3 k X0 X1 1 128 (by decide) r l hp slices_S128x256_o32_128_S32x128
  | 2 => exact left_cols c arg2 arg3 k X0 X1 2 128 (by decide) r l hp slices_S128x256_o64_128_S32x128
  | 3 => exact left_cols c arg2 arg3 k X0 X1 3 128 (by decide) r l hp slices_S128x256_o96_128_S32x128
  | 4 => exact right_cols c arg2 arg3 k X0 X1 0 128 (by decide) r l hp slices_S128x256_o0_128_S32x128
  | 5 => exact right_cols c arg2 arg3 k X0 X1 1 128 (by decide) r l hp slices_S128x256_o32_128_S32x128
  | 6 => exact right_cols c arg2 arg3 k X0 X1 2 128 (by decide) r l hp slices_S128x256_o64_128_S32x128
  | 7 => exact right_cols c arg2 arg3 k X0 X1 3 128 (by decide) r l hp slices_S128x256_o96_128_S32x128

/-- The scale codes of a group whose blocks are `f`. -/
theorem group_code {sig : RefSig} {κ : Kind} {sp : Space} (v : View sig κ sp S72x2x128 .bf16) (z0 z1 z2 z3 z4 z5 z6 z7 : FVec Ideal S32x128 .bf16) (b : Fin 8) (l : Fin 128)
    (f : Fin 32 → EReal) (hf : ∀ r, pick8 z0 z1 z2 z3 z4 z5 z6 z7 b (ix2 r l) = f r) :
    codeOf (slabMax v z0 z1 z2 z3 z4 z5 z6 z7) (ix2 b l) = Spec.code (Spec.amax f) := by
  have e : slabMax v z0 z1 z2 z3 z4 z5 z6 z7 (ix2 b l) = Spec.amax f := by
    rw [slabMax_apply]; congr 1; funext r; exact hf r
  rw [codeOf_eq _ _ (by rw [e]; exact Spec.amax_nonneg f), e]

/-- The scaled values of a group whose blocks are `f`. -/
theorem group_quant (v : View sig .tc .vmem S72x2x128 .bf16) (arg9 : Memref sig .tc .vmem S16x4x8x128 .i32) (o o' : Fin 4 → ℕ) (ho : o = o') (ib ib') (hr)
    (g : arg9.view.ty.Contents (Elt Ideal)) (z0 z1 z2 z3 z4 z5 z6 z7 : FVec Ideal S32x128 .bf16) (b : Fin 8) (r : Fin 32) (l : Fin 128)
    (f : Fin 32 → EReal) (hf : ∀ r, pick8 z0 z1 z2 z3 z4 z5 z6 z7 b (ix2 r l) = f r) (R : Fin 256) (hR : R.val = 32 * b.val + r.val) :
    quantised ((arg9.slice (Rect.unit (s := S16x4x8x128) o' S1x1x8x128.size ib') hr).squeeze S8x128 squeezes_S1x1x8x128_S8x128).view
      (View.write (Elt Ideal) (arg9.access (Rect.unit (s := S16x4x8x128) o S1x1x8x128.size ib)) g (invOf (slabMax v z0 z1 z2 z3 z4 z5 z6 z7)) Finset.univ)
      z0 z1 z2 z3 z4 z5 z6 z7 (ix2 R l) = Spec.quant (f r) (Spec.amax f) := by
  unfold quantised
  rw [stack8_apply _ _ _ _ _ _ _ _ b r l R hR]
  have key : ∀ (z : FVec Ideal S32x128 .bf16) (hz : z (ix2 r l) = f r) (inb), scaled z
      (((arg9.slice (Rect.unit (s := S16x4x8x128) o' S1x1x8x128.size ib') hr).squeeze S8x128 squeezes_S1x1x8x128_S8x128).view.readAt (Elt Ideal)
        { off := ![b.val, 0], size := S8x128.size, stride := ![0, 1], inb := inb }
        (View.write (Elt Ideal) (arg9.access (Rect.unit (s := S16x4x8x128) o S1x1x8x128.size ib)) g (invOf (slabMax v z0 z1 z2 z3 z4 z5 z6 z7)) Finset.univ)) (ix2 r l)
      = Spec.quant (f r) (Spec.amax f) := by
    intro z hz inb
    rw [scaled_apply z _ (Spec.amax f) (Spec.amax_nonneg f) r l, hz]
    intro q
    rw [inv_read arg9 o o' ho ib ib' hr g _ b inb q l, invOf_apply, group_code v z0 z1 z2 z3 z4 z5 z6 z7 b l f hf]
  match b with
  | 0 => exact key z0 (hf r) inb_S8x128_S8x128_0_0_s_0_1
  | 1 => exact key z1 (hf r) inb_S8x128_S8x128_1_0_s_0_1
  | 2 => exact key z2 (hf r) inb_S8x128_S8x128_2_0_s_0_1
  | 3 => exact key z3 (hf r) inb_S8x128_S8x128_3_0_s_0_1
  | 4 => exact key z4 (hf r) inb_S8x128_S8x128_4_0_s_0_1
  | 5 => exact key z5 (hf r) inb_S8x128_S8x128_5_0_s_0_1
  | 6 => exact key z6 (hf r) inb_S8x128_S8x128_6_0_s_0_1
  | 7 => exact key z7 (hf r) inb_S8x128_S8x128_7_0_s_0_1

/-- The codes a trip stores, group by group. -/
theorem codes0 (b : Fin 8) (l : Fin 128) : codeOf (r_22 c arg2 arg8 k X0) (ix2 b l)
    = colCode (arg2.view.read (Elt Ideal) X0) (arg3.view.read (Elt Ideal) X1) (8 * k.val + b.val) l.val := by
  rw [amax0]; exact group_code _ _ _ _ _ _ _ _ _ b l _ fun r => block0 c arg2 arg3 k X0 X1 b r l

theorem codes1 (b : Fin 8) (l : Fin 128) : codeOf (r_57 c arg3 arg8 k X1) (ix2 b l)
    = colCode (arg2.view.read (Elt Ideal) X0) (arg3.view.read (Elt Ideal) X1) (8 * k.val + b.val) (128 + l.val) := by
  rw [amax1]; exact group_code _ _ _ _ _ _ _ _ _ b l _ fun r => block1 c arg2 arg3 k X0 X1 b r l

theorem codes2 (b : Fin 8) (l : Fin 128) : codeOf (r_95 c arg2 arg3 arg8 k X0 X1) (ix2 b l)
    = rowCode (arg2.view.read (Elt Ideal) X0) (arg3.view.read (Elt Ideal) X1) (256 * k.val + (0 + l.val)) b.val := by
  rw [amax2]; exact group_code _ _ _ _ _ _ _ _ _ b l _ fun r => block2 c arg2 arg3 k X0 X1 b r l

theorem codes3 (b : Fin 8) (l : Fin 128) : codeOf (r_136 c arg2 arg3 arg8 k X0 X1) (ix2 b l)
    = rowCode (arg2.view.read (Elt Ideal) X0) (arg3.view.read (Elt Ideal) X1) (256 * k.val + (128 + l.val)) b.val := by
  rw [amax3]; exact group_code _ _ _ _ _ _ _ _ _ b l _ fun r => block3 c arg2 arg3 k X0 X1 b r l

/-- The transposed column codes that a trip stores. -/
theorem cols_eq (C R : Fin 256) : swapped (quant0 c arg2 arg8 arg9 k X0 g0) (quant1 c arg3 arg8 arg9 k X1 g1) (ix2 C R)
    = colQuant (arg2.view.read (Elt Ideal) X0) (arg3.view.read (Elt Ideal) X1) (256 * k.val + R.val) C.val := by
  have hk := trips_lt k
  have hR := R.isLt
  have hC := C.isLt
  have e1 : 256 * k.val + R.val = 32 * (8 * k.val + R.val / 32) + R.val % 32 := by omega
  have e2 : (256 * k.val + R.val) / 32 = 8 * k.val + R.val / 32 := by omega
  have e3 : R.val = 32 * (R.val / 32) + R.val % 32 := by omega
  unfold colQuant
  rw [e2, e1, swapped_apply]
  by_cases h : C.val < 128
  · rw [dif_pos h]
    unfold quant0 invBuf0
    rw [amax0]
    exact group_quant _ arg9 (k0_off3 k) (k0_off4 k) ((k0_off3_eq k).trans (k0_off4_eq k).symm) _ _ _ g0 _ _ _ _ _ _ _ _ ⟨R.val / 32, by omega⟩ ⟨R.val % 32, by omega⟩ ⟨C.val, h⟩ _
      (fun r => block0 c arg2 arg3 k X0 X1 ⟨R.val / 32, by omega⟩ r ⟨C.val, h⟩) R e3
  · rw [dif_neg h]
    unfold quant1 invBuf1
    rw [amax1]
    refine (group_quant _ arg9 (k0_off7 k) (k0_off8 k) ((k0_off7_eq k).trans (k0_off8_eq k).symm) _ _ _ g1 _ _ _ _ _ _ _ _ ⟨R.val / 32, by omega⟩ ⟨R.val % 32, by omega⟩ ⟨C.val - 128, by omega⟩ _
      (fun r => block1 c arg2 arg3 k X0 X1 ⟨R.val / 32, by omega⟩ r ⟨C.val - 128, by omega⟩) R e3).trans ?_
    show Spec.quant (tile _ _ (32 * (8 * k.val + R.val / 32) + R.val % 32) (128 + (C.val - 128))) (Spec.amax fun i => tile _ _ (32 * (8 * k.val + R.val / 32) + i.val) (128 + (C.val - 128))) = _
    rw [show 128 + (C.val - 128) = C.val by omega]

/-- The row codes that a trip stores. -/
theorem rows_eq (R C : Fin 256) : swapped (quant2 c arg2 arg3 arg8 arg9 k X0 X1 g2) (quant3 c arg2 arg3 arg8 arg9 k X0 X1 g3) (ix2 R C)
    = rowQuant (arg2.view.read (Elt Ideal) X0) (arg3.view.read (Elt Ideal) X1) (256 * k.val + R.val) C.val := by
  have hk := trips_lt k
  have hR := R.isLt
  have hC := C.isLt
  have e3 : C.val = 32 * (C.val / 32) + C.val % 32 := by omega
  unfold rowQuant
  rw [swapped_apply]
  by_cases h : R.val < 128
  · rw [dif_pos h]
    unfold quant2 invBuf2
    rw [amax2]
    refine (group_quant _ arg9 (k0_off12 k) (k0_off13 k) ((k0_off12_eq k).trans (k0_off13_eq k).symm) _ _ _ g2 _ _ _ _ _ _ _ _ ⟨C.val / 32, by omega⟩ ⟨C.val % 32, by omega⟩ ⟨R.val, h⟩ _
      (fun r => block2 c arg2 arg3 k X0 X1 ⟨C.val / 32, by omega⟩ r ⟨R.val, h⟩) C e3).trans ?_
    show Spec.quant (tile _ _ (256 * k.val + (0 + R.val)) (32 * (C.val / 32) + C.val % 32)) (Spec.amax fun i => tile _ _ (256 * k.val + (0 + R.val)) (32 * (C.val / 32) + i.val)) = _
    rw [← e3, Nat.zero_add]
  · rw [dif_neg h]
    unfold quant3 invBuf3
    rw [amax3]
    refine (group_quant _ arg9 (k0_off16 k) (k0_off17 k) ((k0_off16_eq k).trans (k0_off17_eq k).symm) _ _ _ g3 _ _ _ _ _ _ _ _ ⟨C.val / 32, by omega⟩ ⟨C.val % 32, by omega⟩ ⟨R.val - 128, by omega⟩ _
      (fun r => block3 c arg2 arg3 k X0 X1 ⟨C.val / 32, by omega⟩ r ⟨R.val - 128, by omega⟩) C e3).trans ?_
    show Spec.quant (tile _ _ (256 * k.val + (128 + (R.val - 128))) (32 * (C.val / 32) + C.val % 32)) (Spec.amax fun i => tile _ _ (256 * k.val + (128 + (R.val - 128))) (32 * (C.val / 32) + i.val)) = _
    rw [← e3, show 128 + (R.val - 128) = R.val by omega]

end Cert.Proof.KernelIdeal
-- ==== Proof.ChunkStores.lean ====
module

public import proofs.«01_k».proof.Proof.TripRead
public import Idealize.ShloMosaic.Lib.WritesUnit

/-!
What the chunk loop has stored before each trip. The trips fill the outputs strip by strip: before trip `k` the first
`k` strips of each hold the quantiser's values, and trip `k` stores strip `k` and leaves the others.
-/

@[expose] public section

noncomputable section

namespace Cert.Proof.KernelIdeal

open Cert.KernelIdeal Cert.KernelIdeal.Gen
open Idealize.ShloMosaic hiding ix2 ix3 ix4
open Idealize.ShloMosaic.TcCoe Idealize.ShloMosaic.Tactic
open Idealize.ShloMosaic.ValueIdx
open tripV.sl

/-- An index after a store reads `P` if the stored rectangle has `P` there, or else what was there before was `P`. -/
theorem after_store {s : Shape} {e : EltTy} {sp : Space} (v : View sig .tc sp s e) (f : v.ty.Contents (Elt Ideal))
    {off off' size : Fin s.rank → ℕ} (inb : ∀ a, off a + size a ≤ s.size a) (w : (Rect.unit off size inb).shape.Idx → Elt Ideal e)
    (L : List (View.Piece (Elt Ideal) s e)) (y : s.Idx) (heq : off = off') (P : Elt Ideal e)
    (inside : ∀ x : (Rect.unit off size inb).shape.Idx, (∀ a, (y a).val = off' a + (x a).val) → w x = P)
    (outside : (∃ a, (y a).val < off' a ∨ off' a + size a ≤ (y a).val) → v.read (Elt Ideal) (v.writes (Elt Ideal) f L) y = P) :
    v.read (Elt Ideal) (v.writes (Elt Ideal) f ((⟨Rect.unit off size inb, w⟩ : View.Piece (Elt Ideal) s e) :: L)) y = P := by
  rw [View.read_writes_cons_unit v f inb w L y heq]
  by_cases h : ∀ a, off' a ≤ (y a).val ∧ (y a).val < off' a + size a
  · rw [dif_pos h]
    exact inside _ fun a => by
      have := h a
      rw [Rect.unitLocal_val]
      omega
  · rw [dif_neg h]
    obtain ⟨a, ha⟩ := not_forall.mp h
    exact outside ⟨a, by omega⟩

section

variable (x0 x1 : S4096x128.Idx → EReal)

/-- Before trip `n`, the row codes are there for the first `256 n` rows, -/
def RowsDone (v : View sig .tc .vmem S4096x256 .fp8e4m3) (n : ℕ) (f : v.ty.Contents (Elt Ideal)) : Prop :=
  ∀ y : S4096x256.Idx, (y 0).val < 256 * n → v.read (Elt Ideal) f y = rowQuant x0 x1 (y 0).val (y 1).val
/-- the transposed column codes for the first `256 n` rows of the block, -/
def ColsDone (v : View sig .tc .vmem S256x4096 .fp8e4m3) (n : ℕ) (f : v.ty.Contents (Elt Ideal)) : Prop :=
  ∀ y : S256x4096.Idx, (y 1).val < 256 * n → v.read (Elt Ideal) f y = colQuant x0 x1 (y 1).val (y 0).val
/-- the row scales likewise, -/
def RowScalesDone (v : View sig .tc .vmem S8x4096 .i32) (n : ℕ) (f : v.ty.Contents (Elt Ideal)) : Prop :=
  ∀ y : S8x4096.Idx, (y 1).val < 256 * n → v.read (Elt Ideal) f y = rowCode x0 x1 (y 1).val (y 0).val
/-- and the column scales for the first `8 n` blocks of rows. -/
def ColScalesDone (v : View sig .tc .vmem S2x128x128 .i32) (n : ℕ) (f : v.ty.Contents (Elt Ideal)) : Prop :=
  ∀ y : S2x128x128.Idx, (y 1).val < 8 * n → v.read (Elt Ideal) f y = colCode x0 x1 (y 1).val (128 * (y 0).val + (y 2).val)

end

variable (c : Dev nD) (arg2 : Memref sig .tc .vmem S4096x128 .bf16) (arg3 : Memref sig .tc .vmem S4096x128 .bf16)
  (arg8 : Memref sig .tc .vmem S16x4x72x2x128 .bf16) (arg9 : Memref sig .tc .vmem S16x4x8x128 .i32)
  (k : Fin k0_t1_loop.trips) (X0 : Buf (Elt Ideal) (arg2.view.loc (c : Thread nD τ))) (X1 : Buf (Elt Ideal) (arg3.view.loc (c : Thread nD τ)))
  (g0 g1 g2 g3 : Buf (Elt Ideal) (arg9.view.loc (c : Thread nD τ)))

/-- A trip stores its strip of row codes. -/
theorem rowsDone_step (v : View sig .tc .vmem S4096x256 .fp8e4m3) (f : v.ty.Contents (Elt Ideal))
    (h : RowsDone (arg2.view.read (Elt Ideal) X0) (arg3.view.read (Elt Ideal) X1) v k.val f) :
    RowsDone (arg2.view.read (Elt Ideal) X0) (arg3.view.read (Elt Ideal) X1) v (k.val + 1) (v.writes (Elt Ideal) f
      [⟨Rect.unit (s := S4096x256) (k0_off18 k) S256x256.size (k0_off18_inb k), swapped (quant2 c arg2 arg3 arg8 arg9 k X0 X1 g2) (quant3 c arg2 arg3 arg8 arg9 k X0 X1 g3)⟩]) := by
  intro y hy
  refine after_store v f _ _ _ y (k0_off18_eq k) _ (fun x hx => ?_) fun ⟨a, ha⟩ => ?_
  · have h0 : (y 0).val = 256 * k.val + (x 0).val := hx 0
    have h1 : (y 1).val = 0 + (x 1).val := hx 1
    rw [h0, h1, Nat.zero_add]
    exact (congrArg (swapped (quant2 c arg2 arg3 arg8 arg9 k X0 X1 g2) (quant3 c arg2 arg3 arg8 arg9 k X0 X1 g3)) (ValueIdx.eq_ix2 x)).trans
      (rows_eq c arg2 arg3 arg8 arg9 k X0 X1 g2 g3 (x 0) (x 1))
  · refine h y ?_
    match a with
    | ⟨0, _⟩ =>
      have ha' : (y 0).val < 256 * k.val ∨ 256 * k.val + 256 ≤ (y 0).val := ha
      omega
    | ⟨1, _⟩ =>
      have ha' : (y 1).val < 0 ∨ 0 + 256 ≤ (y 1).val := ha
      have : (y 1).val < 256 := (y 1).isLt
      omega

/-- A trip stores its strip of transposed column codes. -/
theorem colsDone_step (v : View sig .tc .vmem S256x4096 .fp8e4m3) (f : v.ty.Contents (Elt Ideal))
    (h : ColsDone (arg2.view.read (Elt Ideal) X0) (arg3.view.read (Elt Ideal) X1) v k.val f) :
    ColsDone (arg2.view.read (Elt Ideal) X0) (arg3.view.read (Elt Ideal) X1) v (k.val + 1) (v.writes (Elt Ideal) f
      [⟨Rect.unit (s := S256x4096) (k0_off10 k) S256x256.size (k0_off10_inb k), swapped (quant0 c arg2 arg8 arg9 k X0 g0) (quant1 c arg3 arg8 arg9 k X1 g1)⟩]) := by
  intro y hy
  refine after_store v f _ _ _ y (k0_off10_eq k) _ (fun x hx => ?_) fun ⟨a, ha⟩ => ?_
  · have h0 : (y 0).val = 0 + (x 0).val := hx 0
    have h1 : (y 1).val = 256 * k.val + (x 1).val := hx 1
    rw [h0, h1, Nat.zero_add]
    exact (congrArg (swapped (quant0 c arg2 arg8 arg9 k X0 g0) (quant1 c arg3 arg8 arg9 k X1 g1)) (ValueIdx.eq_ix2 x)).trans
      (cols_eq c arg2 arg3 arg8 arg9 k X0 X1 g0 g1 (x 0) (x 1))
  · refine h y ?_
    match a with
    | ⟨0, _⟩ =>
      have ha' : (y 0).val < 0 ∨ 0 + 256 ≤ (y 0).val := ha
      have : (y 0).val < 256 := (y 0).isLt
      omega
    | ⟨1, _⟩ =>
      have ha' : (y 1).val < 256 * k.val ∨ 256 * k.val + 256 ≤ (y 1).val := ha
      omega

/-- A trip stores its two strips of row scales. -/
theorem rowScalesDone_step (v : View sig .tc .vmem S8x4096 .i32) (f : v.ty.Contents (Elt Ideal))
    (h : RowScalesDone (arg2.view.read (Elt Ideal) X0) (arg3.view.read (Elt Ideal) X1) v k.val f) :
    RowScalesDone (arg2.view.read (Elt Ideal) X0) (arg3.view.read (Elt Ideal) X1) v (k.val + 1) (v.writes (Elt Ideal) f
      [⟨Rect.unit (s := S8x4096) (k0_off14 k 128#32) S8x128.size (k0_off14_inb k 1), shapeCast S8x128 (codeOf (r_136 c arg2 arg3 arg8 k X0 X1)) shapeCasts_S8x128_S8x128⟩,
      ⟨Rect.unit (s := S8x4096) (k0_off14 k 0#32) S8x128.size (k0_off14_inb k 0), shapeCast S8x128 (codeOf (r_95 c arg2 arg3 arg8 k X0 X1)) shapeCasts_S8x128_S8x128⟩]) := by
  intro y hy
  refine after_store v f _ _ _ y (k0_off14_eq k 1) _ (fun x hx => ?_) fun ⟨a, ha⟩ => ?_
  · have h0 : (y 0).val = 0 + (x 0).val := hx 0
    have h1 : (y 1).val = 256 * k.val + 128 * 1 + (x 1).val := hx 1
    rw [h0, h1, Nat.zero_add, show 256 * k.val + 128 * 1 + (x 1).val = 256 * k.val + (128 + (x 1).val) by omega, shapeCast_self]
    exact (congrArg (codeOf (r_136 c arg2 arg3 arg8 k X0 X1)) (ValueIdx.eq_ix2 x)).trans (codes3 c arg2 arg3 arg8 k X0 X1 (x 0) (x 1))
  · have ha' : (y 1).val < 256 * k.val + 128 := by
      match a with
      | ⟨0, _⟩ =>
        have ha' : (y 0).val < 0 ∨ 0 + 8 ≤ (y 0).val := ha
        have : (y 0).val < 8 := (y 0).isLt
        omega
      | ⟨1, _⟩ =>
        have ha' : (y 1).val < 256 * k.val + 128 * 1 ∨ 256 * k.val + 128 * 1 + 128 ≤ (y 1).val := ha
        omega
    refine after_store v f _ _ _ y (k0_off14_eq k 0) _ (fun x hx => ?_) fun ⟨a, ha⟩ => ?_
    · have h0 : (y 0).val = 0 + (x 0).val := hx 0
      have h1 : (y 1).val = 256 * k.val + 128 * 0 + (x 1).val := hx 1
      rw [h0, h1, Nat.zero_add, show 256 * k.val + 128 * 0 + (x 1).val = 256 * k.val + (0 + (x 1).val) by omega, shapeCast_self]
      exact (congrArg (codeOf (r_95 c arg2 arg3 arg8 k X0 X1)) (ValueIdx.eq_ix2 x)).trans (codes2 c arg2 arg3 arg8 k X0 X1 (x 0) (x 1))
    · refine h y ?_
      match a with
      | ⟨0, _⟩ =>
        have ha' : (y 0).val < 0 ∨ 0 + 8 ≤ (y 0).val := ha
        have : (y 0).val < 8 := (y 0).isLt
        omega
      | ⟨1, _⟩ =>
        have ha'' : (y 1).val < 256 * k.val + 128 * 0 ∨ 256 * k.val + 128 * 0 + 128 ≤ (y 1).val := ha
        omega

/-- Eight rows of column scales, as one plane. -/
theorem plane_apply (A : IVec S8x128 32) (x : S1x8x128.Idx) : shapeCast S1x8x128 A shapeCasts_S8x128_S1x8x128 x = A (ix2 (x 1) (x 2)) := by
  have h0 : (x 0).val < 1 := (x 0).isLt
  refine shapeCast_apply A _ x (ix2 (x 1) (x 2)) ?_
  rw [Shape.rowMajor_val_two, Shape.rowMajor_val_three]
  show (x 1).val * 128 + (x 2).val = ((x 0).val * 8 + (x 1).val) * 128 + (x 2).val
  omega

/-- A trip stores its two strips of column scales. -/
theorem colScalesDone_step (v : View sig .tc .vmem S2x128x128 .i32) (f : v.ty.Contents (Elt Ideal))
    (h : ColScalesDone (arg2.view.read (Elt Ideal) X0) (arg3.view.read (Elt Ideal) X1) v k.val f) :
    ColScalesDone (arg2.view.read (Elt Ideal) X0) (arg3.view.read (Elt Ideal) X1) v (k.val + 1) (v.writes (Elt Ideal) f
      [⟨Rect.unit (s := S2x128x128) (k0_off9 k) S1x8x128.size (k0_off9_inb k), shapeCast S1x8x128 (codeOf (r_57 c arg3 arg8 k X1)) shapeCasts_S8x128_S1x8x128⟩,
      ⟨Rect.unit (s := S2x128x128) (k0_off5 k) S1x8x128.size (k0_off5_inb k), shapeCast S1x8x128 (codeOf (r_22 c arg2 arg8 k X0)) shapeCasts_S8x128_S1x8x128⟩]) := by
  intro y hy
  have b0 : (y 0).val < 2 := (y 0).isLt
  have b2 : (y 2).val < 128 := (y 2).isLt
  refine after_store v f _ _ _ y (k0_off9_eq k) _ (fun x hx => ?_) fun ⟨a, ha⟩ => ?_
  · have h0 : (y 0).val = 1 + (x 0).val := hx 0
    have h1 : (y 1).val = 8 * k.val + (x 1).val := hx 1
    have h2 : (y 2).val = 0 + (x 2).val := hx 2
    rw [h1, show 128 * (y 0).val + (y 2).val = 128 + (x 2).val by omega]
    exact (plane_apply _ x).trans (codes1 c arg2 arg3 arg8 k X0 X1 (x 1) (x 2))
  · have ha' : (y 0).val = 0 ∨ (y 1).val < 8 * k.val := by
      match a with
      | ⟨0, _⟩ =>
        have ha' : (y 0).val < 1 ∨ 1 + 1 ≤ (y 0).val := ha
        omega
      | ⟨1, _⟩ =>
        have ha' : (y 1).val < 8 * k.val ∨ 8 * k.val + 8 ≤ (y 1).val := ha
        omega
      | ⟨2, _⟩ =>
        have ha' : (y 2).val < 0 ∨ 0 + 128 ≤ (y 2).val := ha
        omega
    refine after_store v f _ _ _ y (k0_off5_eq k) _ (fun x hx => ?_) fun ⟨a, ha⟩ => ?_
    · have h0 : (y 0).val = 0 + (x 0).val := hx 0
      have h1 : (y 1).val = 8 * k.val + (x 1).val := hx 1
      have h2 : (y 2).val = 0 + (x 2).val := hx 2
      have hx0 : (x 0).val < 1 := (x 0).isLt
      rw [h1, show 128 * (y 0).val + (y 2).val = (x 2).val by omega]
      exact (plane_apply _ x).trans (codes0 c arg2 arg3 arg8 k X0 X1 (x 1) (x 2))
    · refine h y ?_
      match a with
      | ⟨0, _⟩ =>
        have ha'' : (y 0).val < 0 ∨ 0 + 1 ≤ (y 0).val := ha
        omega
      | ⟨1, _⟩ =>
        have ha'' : (y 1).val < 8 * k.val ∨ 8 * k.val + 8 ≤ (y 1).val := ha
        omega
      | ⟨2, _⟩ =>
        have ha'' : (y 2).val < 0 ∨ 0 + 128 ≤ (y 2).val := ha
        omega

end Cert.Proof.KernelIdeal

end
-- ==== Proof.BlockKernelIdeal.lean ====
module

public import proofs.«01_k».proof.Proof.ChunkStores
public import proofs.«01_k».proof.Proof.FrameKernelIdeal
public import Idealize.ShloMosaic.Lib.VecWindow
public import Idealize.ShloMosaic.Lib.ValueLayout

/-!
One grid point of the kernel at exact arithmetic: from the two input blocks, the body leaves the quantiser's values in the
four output blocks. The chunk loop runs by the invariant that the first strips of each output are done.
-/

@[expose] public section

set_option maxRecDepth 16384

noncomputable section

namespace Cert.Proof.KernelIdeal

open Cert.KernelIdeal Cert.KernelIdeal.Gen
open Idealize.ShloMosaic hiding ix2 ix3 ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.ValueIdx

local notation "𝕄" => MT nD τ sig Unit (Elt Ideal) ℕ (UR sig nD τ) ℕ

/-! ## The four output blocks -/

/-- The block of row codes, -/
def rowsOut (x0 x1 : Vec Ideal S4096x128 .bf16) : Vec Ideal S4096x256 .fp8e4m3 := fun y => rowQuant x0 x1 (y 0).val (y 1).val
/-- of row scales (transposed), -/
def rowScalesOut (x0 x1 : Vec Ideal S4096x128 .bf16) : Vec Ideal S8x4096 .i8 := fun y => (rowCode x0 x1 (y 1).val (y 0).val).setWidth 8
/-- of column codes (transposed), -/
def colsOut (x0 x1 : Vec Ideal S4096x128 .bf16) : Vec Ideal S256x4096 .fp8e4m3 := fun y => colQuant x0 x1 (y 1).val (y 0).val
/-- and of column scales (transposed). -/
def colScalesOut (x0 x1 : Vec Ideal S4096x128 .bf16) : Vec Ideal S256x128 .i8 := fun y => (colCode x0 x1 (y 1).val (y 0).val).setWidth 8

theorem rows_all (x0 x1 : Vec Ideal S4096x128 .bf16) (v : View sig .tc .vmem S4096x256 .fp8e4m3) (f : v.ty.Contents (Elt Ideal)) (h : RowsDone x0 x1 v 16 f) :
    v.read (Elt Ideal) f = rowsOut x0 x1 := funext fun y => h y (y 0).isLt
theorem cols_all (x0 x1 : Vec Ideal S4096x128 .bf16) (v : View sig .tc .vmem S256x4096 .fp8e4m3) (f : v.ty.Contents (Elt Ideal)) (h : ColsDone x0 x1 v 16 f) :
    v.read (Elt Ideal) f = colsOut x0 x1 := funext fun y => h y (y 1).isLt

/-- The row scales, read whole and narrowed to bytes. -/
theorem rowScales_all (x0 x1 : Vec Ideal S4096x128 .bf16) (v : View sig .tc .vmem S8x4096 .i32) (f : v.ty.Contents (Elt Ideal)) (h : RowScalesDone x0 x1 v 16 f) :
    k0_pay4 (F := Ideal) (v.readAt (Elt Ideal) (Rect.unit (s := S8x4096) ![0, 0] S8x4096.size inb_S8x4096_S8x4096_0_0).toLoadRect f) = rowScalesOut x0 x1 := by
  funext y
  unfold k0_pay4 rowScalesOut
  rw [View.readAt_full]
  show (v.read (Elt Ideal) f y).setWidth 8 = _
  rw [h y (y 1).isLt]

/-- One plane of column scales, read. -/
theorem plane_read (v : View sig .tc .vmem S2x128x128 .i32) (f : v.ty.Contents (Elt Ideal))
    (p : ℕ) (hp : p < 2) (inb : ∀ a, (![p, 0, 0] : Fin 3 → ℕ) a + S1x128x128.size a ≤ S2x128x128.size a) (B l : Fin 128) :
    v.readAt (Elt Ideal) (Rect.unit (s := S2x128x128) ![p, 0, 0] S1x128x128.size inb).toLoadRect f (ix3 (0 : Fin 1) B l)
      = v.read (Elt Ideal) f (ix3 (⟨p, hp⟩ : Fin 2) B l) := by
  rw [View.readAt_apply]
  congr 1
  funext a
  apply Fin.ext
  match a with
  | ⟨0, _⟩ => show p + 1 * 0 = p; omega
  | ⟨1, _⟩ => show 0 + 1 * B.val = B.val; omega
  | ⟨2, _⟩ => show 0 + 1 * l.val = l.val; omega

/-- One plane of column scales, read, transposed and narrowed to bytes. -/
theorem colScales_plane (x0 x1 : Vec Ideal S4096x128 .bf16) (v : View sig .tc .vmem S2x128x128 .i32) (f : v.ty.Contents (Elt Ideal)) (h : ColScalesDone x0 x1 v 16 f)
    (p : ℕ) (hp : p < 2) (inb : ∀ a, (![p, 0, 0] : Fin 3 → ℕ) a + S1x128x128.size a ≤ S2x128x128.size a) (y : S128x128.Idx) :
    trunci 8 (transpose S128x128 [1, 0] (shapeCast S128x128 (v.readAt (Elt Ideal) (Rect.unit (s := S2x128x128) ![p, 0, 0] S1x128x128.size inb).toLoadRect f : Vec Ideal S1x128x128 .i32) shapeCasts_S1x128x128_S128x128) transposes_S128x128_p1_0_S128x128) natLt_8_32 y
      = (colCode x0 x1 (y 1).val (128 * p + (y 0).val)).setWidth 8 := by
  have hy1 : (y 1).val < 128 := (y 1).isLt
  have hy0 : (y 0).val < 128 := (y 0).isLt
  rw [show ∀ A : IVec S128x128 32, trunci 8 A natLt_8_32 y = (A y).setWidth 8 from fun _ => rfl]
  refine congrArg (BitVec.setWidth 8) ?_
  refine (congrArg _ (ValueIdx.eq_ix2 y)).trans ((transpose_ix2_apply _ _ (y 0) (y 1)).trans ?_)
  refine (shapeCast_apply _ _ (ix2 (y 1) (y 0)) (ix3 (0 : Fin 1) (y 1) (y 0)) ?_).trans ?_
  · rw [Shape.rowMajor_val_two, Shape.rowMajor_val_three]
    show (0 * 128 + (y 1).val) * 128 + (y 0).val = (y 1).val * 128 + (y 0).val
    omega
  exact (plane_read v f p hp inb (y 1) (y 0)).trans (h (ix3 (⟨p, hp⟩ : Fin 2) (y 1) (y 0)) hy1)

/-- The two planes of column scales, stored one under the other. -/
theorem colScales_all (x0 x1 : Vec Ideal S4096x128 .bf16) (v7 : View sig .tc .vmem S256x128 .i8) (f7 : v7.ty.Contents (Elt Ideal))
    (v : View sig .tc .vmem S2x128x128 .i32) (f : v.ty.Contents (Elt Ideal)) (h : ColScalesDone x0 x1 v 16 f) :
    v7.read (Elt Ideal) (v7.writes (Elt Ideal) f7
      [⟨Rect.unit (s := S256x128) ![128, 0] S128x128.size inb_S256x128_S128x128_128_0, k0_pay6 (F := Ideal) (v.readAt (Elt Ideal) (Rect.unit (s := S2x128x128) ![1, 0, 0] S1x128x128.size inb_S2x128x128_S1x128x128_1_0_0).toLoadRect f)⟩,
        ⟨Rect.unit (s := S256x128) ![0, 0] S128x128.size inb_S256x128_S128x128_0_0, k0_pay5 (F := Ideal) (v.readAt (Elt Ideal) (Rect.unit (s := S2x128x128) ![0, 0, 0] S1x128x128.size inb_S2x128x128_S1x128x128_0_0_0).toLoadRect f)⟩])
      = colScalesOut x0 x1 := by
  funext y
  unfold colScalesOut
  have b0 : (y 0).val < 256 := (y 0).isLt
  have b1 : (y 1).val < 128 := (y 1).isLt
  refine after_store v7 f7 _ _ _ y rfl _ (fun x hx => ?_) fun ⟨a, ha⟩ => ?_
  · have h0 : (y 0).val = 128 + (x 0).val := hx 0
    have h1 : (y 1).val = 0 + (x 1).val := hx 1
    rw [h0, h1, Nat.zero_add]
    exact colScales_plane x0 x1 v f h 1 (by decide) _ x
  · have ha' : (y 0).val < 128 := by
      match a with
      | ⟨0, _⟩ =>
        have ha' : (y 0).val < 128 ∨ 128 + 128 ≤ (y 0).val := ha
        omega
      | ⟨1, _⟩ =>
        have ha' : (y 1).val < 0 ∨ 0 + 128 ≤ (y 1).val := ha
        omega
    refine after_store v7 f7 _ _ _ y rfl _ (fun x hx => ?_) fun ⟨a, ha⟩ => ?_
    · have h0 : (y 0).val = 0 + (x 0).val := hx 0
      have h1 : (y 1).val = 0 + (x 1).val := hx 1
      rw [h0, h1, Nat.zero_add, Nat.zero_add]
      exact (colScales_plane x0 x1 v f h 0 (by decide) _ x).trans (by rw [Nat.mul_zero, Nat.zero_add])
    · exfalso
      match a with
      | ⟨0, _⟩ =>
        have ha'' : (y 0).val < 0 ∨ 0 + 128 ≤ (y 0).val := ha
        omega
      | ⟨1, _⟩ =>
        have ha'' : (y 1).val < 0 ∨ 0 + 128 ≤ (y 1).val := ha
        omega

/-! ## The chunk loop -/

section Body

variable (c : Dev nD) (i : grid0.Coords)
variable (arg2 : Memref sig .tc .vmem S4096x128 .bf16) (harg2 : arg2.IsWhole) (arg3 : Memref sig .tc .vmem S4096x128 .bf16) (harg3 : arg3.IsWhole) (arg4 : Memref sig .tc .vmem S4096x256 .fp8e4m3) (harg4 : arg4.IsWhole) (arg5 : Memref sig .tc .vmem S8x4096 .i8) (harg5 : arg5.IsWhole) (arg6 : Memref sig .tc .vmem S256x4096 .fp8e4m3) (harg6 : arg6.IsWhole) (arg7 : Memref sig .tc .vmem S256x128 .i8) (harg7 : arg7.IsWhole) (arg8 : Memref sig .tc .vmem S16x4x72x2x128 .bf16) (harg8 : arg8.IsWhole) (arg9 : Memref sig .tc .vmem S16x4x8x128 .i32) (harg9 : arg9.IsWhole) (arg10 : Memref sig .tc .vmem S8x4096 .i32) (harg10 : arg10.IsWhole) (arg11 : Memref sig .tc .vmem S2x128x128 .i32) (harg11 : arg11.IsWhole)

/-- What the chunk loop holds before trip `n`: the two input blocks at their contents, the first `n` strips of the
    outputs done, the slabs and the multipliers at some contents. -/
def InvV (X0 : Buf (Elt Ideal) (arg2.view.loc (c : Thread nD τ))) (X1 : Buf (Elt Ideal) (arg3.view.loc (c : Thread nD τ))) (n : ℕ) : sProp 𝕄 :=
  iprop((arg2.view.loc (c : Thread nD τ) ↦[arg2.view.set]{fullShare} X0) ∗ (arg3.view.loc (c : Thread nD τ) ↦[arg3.view.set]{fullShare} X1)
    ∗ (∃ f : Buf (Elt Ideal) (arg4.view.loc (c : Thread nD τ)), ⌜RowsDone (arg2.view.read (Elt Ideal) X0) (arg3.view.read (Elt Ideal) X1) arg4.view n f⌝ ∗ (arg4.view.loc (c : Thread nD τ) ↦[arg4.view.set]{fullShare} f))
    ∗ (∃ f : Buf (Elt Ideal) (arg6.view.loc (c : Thread nD τ)), ⌜ColsDone (arg2.view.read (Elt Ideal) X0) (arg3.view.read (Elt Ideal) X1) arg6.view n f⌝ ∗ (arg6.view.loc (c : Thread nD τ) ↦[arg6.view.set]{fullShare} f))
    ∗ Held c arg8 ∗ Held c arg9
    ∗ (∃ f : Buf (Elt Ideal) (arg10.view.loc (c : Thread nD τ)), ⌜RowScalesDone (arg2.view.read (Elt Ideal) X0) (arg3.view.read (Elt Ideal) X1) arg10.view n f⌝ ∗ (arg10.view.loc (c : Thread nD τ) ↦[arg10.view.set]{fullShare} f))
    ∗ (∃ f : Buf (Elt Ideal) (arg11.view.loc (c : Thread nD τ)), ⌜ColScalesDone (arg2.view.read (Elt Ideal) X0) (arg3.view.read (Elt Ideal) X1) arg11.view n f⌝ ∗ (arg11.view.loc (c : Thread nD τ) ↦[arg11.view.set]{fullShare} f)))

/-- The trip's triple at stored pieces known by name. -/
theorem trip_stores (k : Fin k0_t1_loop.trips) (X0 : Buf (Elt Ideal) (arg2.view.loc (c : Thread nD τ))) (X1 : Buf (Elt Ideal) (arg3.view.loc (c : Thread nD τ))) (g0 g1 g2 g3 : Buf (Elt Ideal) (arg9.view.loc (c : Thread nD τ)))
    (L4 : Pieces (F := Ideal) S4096x256 .fp8e4m3) (L6 : Pieces (F := Ideal) S256x4096 .fp8e4m3) (L10 : Pieces (F := Ideal) S8x4096 .i32) (L11 : Pieces (F := Ideal) S2x128x128 .i32)
    (e4 : (tripV c i arg2 harg2 arg3 harg3 arg4 harg4 arg5 harg5 arg6 harg6 arg7 harg7 arg8 harg8 arg9 harg9 arg10 harg10 arg11 harg11 k X0 X1 g0 g1 g2 g3).1 = L4) (e6 : (tripV c i arg2 harg2 arg3 harg3 arg4 harg4 arg5 harg5 arg6 harg6 arg7 harg7 arg8 harg8 arg9 harg9 arg10 harg10 arg11 harg11 k X0 X1 g0 g1 g2 g3).2.1 = L6)
    (e10 : (tripV c i arg2 harg2 arg3 harg3 arg4 harg4 arg5 harg5 arg6 harg6 arg7 harg7 arg8 harg8 arg9 harg9 arg10 harg10 arg11 harg11 k X0 X1 g0 g1 g2 g3).2.2.1 = L10) (e11 : (tripV c i arg2 harg2 arg3 harg3 arg4 harg4 arg5 harg5 arg6 harg6 arg7 harg7 arg8 harg8 arg9 harg9 arg10 harg10 arg11 harg11 k X0 X1 g0 g1 g2 g3).2.2.2.1 = L11)
    (f4 : Buf (Elt Ideal) (arg4.view.loc (c : Thread nD τ))) (f6 : Buf (Elt Ideal) (arg6.view.loc (c : Thread nD τ))) (f10 : Buf (Elt Ideal) (arg10.view.loc (c : Thread nD τ))) (f11 : Buf (Elt Ideal) (arg11.view.loc (c : Thread nD τ))) :
    iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} f4) ∗ (arg6.view.loc (c : Thread nD τ) ↦[arg6.view.set]{fullShare} f6) ∗ (arg10.view.loc (c : Thread nD τ) ↦[arg10.view.set]{fullShare} f10) ∗ (arg11.view.loc (c : Thread nD τ) ↦[arg11.view.set]{fullShare} f11)
        ∗ Held c (slab0 k arg8) ∗ Held c (slab1 k arg8) ∗ Held c (slab2 k arg8) ∗ Held c (slab3 k arg8) ∗ ((inv0 k arg9).view.loc (c : Thread nD τ) ↦[(inv0 k arg9).view.set]{fullShare} g0) ∗ ((inv1 k arg9).view.loc (c : Thread nD τ) ↦[(inv1 k arg9).view.set]{fullShare} g1) ∗ ((inv2 k arg9).view.loc (c : Thread nD τ) ↦[(inv2 k arg9).view.set]{fullShare} g2) ∗ ((inv3 k arg9).view.loc (c : Thread nD τ) ↦[(inv3 k arg9).view.set]{fullShare} g3))
      ⊢ wp Idealize.ShloMosaic.frame (wpE (defs₀ (F := Ideal)) Variants.none (c : Thread nD τ) none) Set.univ (k0_t1_body (F := Ideal) i arg2 harg2 arg3 harg3 arg4 harg4 arg5 harg5 arg6 harg6 arg7 harg7 arg8 harg8 arg9 harg9 arg10 harg10 arg11 harg11 k ())
        (fun _ => iprop((arg2.view.loc (c : Thread nD τ) ↦[arg2.view.set]{fullShare} X0) ∗ (arg3.view.loc (c : Thread nD τ) ↦[arg3.view.set]{fullShare} X1) ∗ (arg4.view.loc (c : Thread nD τ) ↦[arg4.view.set]{fullShare} (arg4.view.writes (Elt Ideal) f4 L4)) ∗ (arg6.view.loc (c : Thread nD τ) ↦[arg6.view.set]{fullShare} (arg6.view.writes (Elt Ideal) f6 L6)) ∗ (arg10.view.loc (c : Thread nD τ) ↦[arg10.view.set]{fullShare} (arg10.view.writes (Elt Ideal) f10 L10)) ∗ (arg11.view.loc (c : Thread nD τ) ↦[arg11.view.set]{fullShare} (arg11.view.writes (Elt Ideal) f11 L11))
        ∗ Held c (slab0 k arg8) ∗ Held c (slab1 k arg8) ∗ Held c (slab2 k arg8) ∗ Held c (slab3 k arg8) ∗ Held c (inv0 k arg9) ∗ Held c (inv1 k arg9) ∗ Held c (inv2 k arg9) ∗ Held c (inv3 k arg9))) := by
  subst e4 e6 e10 e11
  exact (tripV c i arg2 harg2 arg3 harg3 arg4 harg4 arg5 harg5 arg6 harg6 arg7 harg7 arg8 harg8 arg9 harg9 arg10 harg10 arg11 harg11 k X0 X1 g0 g1 g2 g3).2.2.2.2 f4 f6 f10 f11

set_option maxHeartbeats 1000000 in
/-- One trip keeps it. -/
theorem invV_step (X0 : Buf (Elt Ideal) (arg2.view.loc (c : Thread nD τ))) (X1 : Buf (Elt Ideal) (arg3.view.loc (c : Thread nD τ))) (k : Fin k0_t1_loop.trips) :
    InvV c arg2 arg3 arg4 arg6 arg8 arg9 arg10 arg11 X0 X1 k.val
      ⊢ wp Idealize.ShloMosaic.frame (wpE (defs₀ (F := Ideal)) Variants.none (c : Thread nD τ) none) Set.univ (k0_t1_body (F := Ideal) i arg2 harg2 arg3 harg3 arg4 harg4 arg5 harg5 arg6 harg6 arg7 harg7 arg8 harg8 arg9 harg9 arg10 harg10 arg11 harg11 k ())
        (fun _ => InvV c arg2 arg3 arg4 arg6 arg8 arg9 arg10 arg11 X0 X1 (k.val + 1)) := by
  unfold InvV
  iintro ⟨H2, H3, ⟨%f4, %h4, H4⟩, ⟨%f6, %h6, H6⟩, H8, H9, ⟨%f10, %h10, H10⟩, ⟨%f11, %h11, H11⟩⟩
  ihave H8 := (slab_out c arg8 k) $$ H8
  icases H8 with ⟨H80, H81, H82, H83, H8⟩
  ihave H9 := (inv_out c arg9 k) $$ H9
  icases H9 with ⟨⟨%g0, H90⟩, ⟨%g1, H91⟩, ⟨%g2, H92⟩, ⟨%g3, H93⟩, H9⟩
  iapply (wp_wand_r Idealize.ShloMosaic.frame (wpE (defs₀ (F := Ideal)) Variants.none (c : Thread nD τ) none) Set.univ)
  isplitl [H2 H3 H4 H6 H10 H11 H80 H81 H82 H83 H90 H91 H92 H93]
  · iapply (trip_stores c i arg2 harg2 arg3 harg3 arg4 harg4 arg5 harg5 arg6 harg6 arg7 harg7 arg8 harg8 arg9 harg9 arg10 harg10 arg11 harg11 k X0 X1 g0 g1 g2 g3 _ _ _ _
      (pieces4 c arg2 arg3 arg8 arg9 k X0 X1 g0 g1 g2 g3 i harg2 harg3 arg4 harg4 arg5 harg5 arg6 harg6 arg7 harg7 harg8 harg9 arg10 harg10 arg11 harg11) (pieces6 c arg2 arg3 arg8 arg9 k X0 X1 g0 g1 g2 g3 i harg2 harg3 arg4 harg4 arg5 harg5 arg6 harg6 arg7 harg7 harg8 harg9 arg10 harg10 arg11 harg11)
      (pieces10 c arg2 arg3 arg8 arg9 k X0 X1 g0 g1 g2 g3 i harg2 harg3 arg4 harg4 arg5 harg5 arg6 harg6 arg7 harg7 harg8 harg9 arg10 harg10 arg11 harg11) (pieces11 c arg2 arg3 arg8 arg9 k X0 X1 g0 g1 g2 g3 i harg2 harg3 arg4 harg4 arg5 harg5 arg6 harg6 arg7 harg7 harg8 harg9 arg10 harg10 arg11 harg11) f4 f6 f10 f11)
    isplitl [H2]; · iexact H2
    isplitl [H3]; · iexact H3
    isplitl [H4]; · iexact H4
    isplitl [H6]; · iexact H6
    isplitl [H10]; · iexact H10
    isplitl [H11]; · iexact H11
    isplitl [H80]; · iexact H80
    isplitl [H81]; · iexact H81
    isplitl [H82]; · iexact H82
    isplitl [H83]; · iexact H83
    isplitl [H90]; · iexact H90
    isplitl [H91]; · iexact H91
    isplitl [H92]; · iexact H92
    iexact H93
  iintro %_ HT
  icases HT with ⟨H2, H3, H4, H6, H10, H11, H80, H81, H82, H83, H90, H91, H92, H93⟩
  isplitl [H2]; · iexact H2
  isplitl [H3]; · iexact H3
  isplitl [H4]
  · iexists _; isplitr; swap; · iexact H4
    ipureintro; exact rowsDone_step c arg2 arg3 arg8 arg9 k X0 X1 g2 g3 arg4.view f4 h4
  isplitl [H6]
  · iexists _; isplitr; swap; · iexact H6
    ipureintro; exact colsDone_step c arg2 arg3 arg8 arg9 k X0 X1 g0 g1 arg6.view f6 h6
  isplitl [H8 H80 H81 H82 H83]
  · iapply (slab_in c arg8 k)
    isplitl [H80]; · iexact H80
    isplitl [H81]; · iexact H81
    isplitl [H82]; · iexact H82
    isplitl [H83]; · iexact H83
    iexact H8
  isplitl [H9 H90 H91 H92 H93]
  · iapply (inv_in c arg9 k)
    isplitl [H90]; · iexact H90
    isplitl [H91]; · iexact H91
    isplitl [H92]; · iexact H92
    isplitl [H93]; · iexact H93
    iexact H9
  isplitl [H10]
  · iexists _; isplitr; swap; · iexact H10
    ipureintro; exact rowScalesDone_step c arg2 arg3 arg8 k X0 X1 arg10.view f10 h10
  iexists _; isplitr; swap; · iexact H11
  ipureintro; exact colScalesDone_step c arg2 arg3 arg8 k X0 X1 arg11.view f11 h11

set_option maxHeartbeats 1000000 in
/-- The body's triple, the four output blocks named. -/
theorem kernelRunV (x0 x1 : Vec Ideal S4096x128 .bf16) (K : PUnit → sProp 𝕄) :
    iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)
        ∗ (iprop(owns (c : Thread nD τ) arg2 fullShare x0 ∗ owns (c : Thread nD τ) arg3 fullShare x1 ∗ owns (c : Thread nD τ) arg4 fullShare (rowsOut x0 x1) ∗ owns (c : Thread nD τ) arg5 fullShare (rowScalesOut x0 x1) ∗ owns (c : Thread nD τ) arg6 fullShare (colsOut x0 x1) ∗ owns (c : Thread nD τ) arg7 fullShare (colScalesOut x0 x1) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d)) -∗ K ⟨⟩))
      ⊢ wp Idealize.ShloMosaic.frame (wpE (defs₀ (F := Ideal)) Variants.none c none) Set.univ (cc0_mxfp8_cast_transpose i arg2 harg2 arg3 harg3 arg4 harg4 arg5 harg5 arg6 harg6 arg7 harg7 arg8 harg8 arg9 harg9 arg10 harg10 arg11 harg11) K := by
  simp only [cc0_mxfp8_cast_transpose_eq_skeleton]; unfold cc0_mxfp8_cast_transpose_skel
  unfold owns
  iintro ⟨⟨%f0, %hf0, H2⟩, ⟨%f1, %hf1, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩, ⟨%d10, %f10, -, H10⟩, ⟨%d11, %f11, -, H11⟩, Hk⟩
  sl_for (fun n _ => InvV c arg2 arg3 arg4 arg6 arg8 arg9 arg10 arg11 f0 f1 n) $$ [H2 H3 H4 H6 H8 H9 H10 H11]
  · intro k acc; exact invV_step c i arg2 harg2 arg3 harg3 arg4 harg4 arg5 harg5 arg6 harg6 arg7 harg7 arg8 harg8 arg9 harg9 arg10 harg10 arg11 harg11 _ _ k
  · unfold InvV
    isplitl [H2]; · iexact H2
    isplitl [H3]; · iexact H3
    isplitl [H4]
    · iexists _; isplitr; swap; · iexact H4
      ipureintro; intro y hy; exact absurd hy (Nat.not_lt_zero _)
    isplitl [H6]
    · iexists _; isplitr; swap; · iexact H6
      ipureintro; intro y hy; exact absurd hy (Nat.not_lt_zero _)
    isplitl [H8]; · iexists _; iexact H8
    isplitl [H9]; · iexists _; iexact H9
    isplitl [H10]
    · iexists _; isplitr; swap; · iexact H10
      ipureintro; intro y hy; exact absurd hy (Nat.not_lt_zero _)
    iexists _; isplitr; swap; · iexact H11
    ipureintro; intro y hy; exact absurd hy (Nat.not_lt_zero _)
  iintro %acc HI
  unfold InvV
  icases HI with ⟨H2, H3, ⟨%g4, %h4, H4⟩, ⟨%g6, %h6, H6⟩, ⟨%g8, H8⟩, ⟨%g9, H9⟩, ⟨%g10, %h10, H10⟩, ⟨%g11, %h11, H11⟩⟩
  rw [hf0, hf1] at h4 h6 h10 h11
  sl_exec
  sl_step
  iapply Hk
  isplitl [H2]
  · iexists _; isplitr; · ipureintro; exact hf0
    iexact H2
  isplitl [H3]
  · iexists _; isplitr; · ipureintro; exact hf1
    iexact H3
  isplitl [H4]
  · iexists _; isplitr; swap; · iexact H4
    ipureintro; exact rows_all x0 x1 arg4.view g4 h4
  isplitl [H5]
  · iexists _; isplitr; swap; · iexact H5
    ipureintro
    exact (View.read_writes_full _ _ _ _ _).trans (rowScales_all x0 x1 arg10.view g10 h10)
  isplitl [H6]
  · iexists _; isplitr; swap; · iexact H6
    ipureintro; exact cols_all x0 x1 arg6.view g6 h6
  isplitl [H7]
  · iexists _; isplitr; swap; · iexact H7
    ipureintro; exact colScales_all x0 x1 arg7.view f7 arg11.view g11 h11
  isplitl [H8]
  · iexists _, _; isplitr; swap; · iexact H8
    ipureintro; rfl
  isplitl [H9]
  · iexists _, _; isplitr; swap; · iexact H9
    ipureintro; rfl
  isplitl [H10]
  · iexists _, _; isplitr; swap; · iexact H10
    ipureintro; rfl
  iexists _, _; isplitr; swap; · iexact H11
  ipureintro; rfl

end Body

end Cert.Proof.KernelIdeal

end
-- ==== Proof.RunKernelIdeal.lean ====
module

public import proofs.«01_k».proof.Proof.BlockKernelIdeal

/-!
The run of the kernel at exact arithmetic, its four output arrays named: block by block, the quantiser's values of the
two input blocks at that grid point.
-/

@[expose] public section

set_option maxRecDepth 16384

noncomputable section

namespace Cert.Proof.KernelIdeal.Results

open Cert.KernelIdeal Cert.KernelIdeal.Gen
open Idealize.ShloMosaic hiding ix2 ix3 ix4
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The proof data of the pipeline: after the body at point `t` each input's buffer is at its block, each output's at the
    quantiser's values of the two input blocks. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => rowsOut (iblk m c 0 t) (iblk m c 1 t)
    | ⟨3, _⟩ => rowScalesOut (iblk m c 0 t) (iblk m c 1 t)
    | ⟨4, _⟩ => colsOut (iblk m c 0 t) (iblk m c 1 t)
    | ⟨5, _⟩ => colScalesOut (iblk m c 0 t) (iblk m c 1 t)
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = rowsOut (iblk m c 0 t) (iblk m c 1 t) := by dsimp only [dats]
theorem after0_3 (c : Dev nD) (t : Fin cfg0.N) : (dats m 0 c).after 3 t = rowScalesOut (iblk m c 0 t) (iblk m c 1 t) := by dsimp only [dats]
theorem after0_4 (c : Dev nD) (t : Fin cfg0.N) : (dats m 0 c).after 4 t = colsOut (iblk m c 0 t) (iblk m c 1 t) := by dsimp only [dats]
theorem after0_5 (c : Dev nD) (t : Fin cfg0.N) : (dats m 0 c).after 5 t = colScalesOut (iblk m c 0 t) (iblk m c 1 t) := by dsimp only [dats]

/-- Each input's staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks, so the block's triple applies; the scratch buffers are
    handed over at some contents and taken back at some contents. -/
theorem sound_body (c : Dev nD) (t : Fin cfg0.N) :
    bodyPre m c t ⊢ wp Idealize.ShloMosaic.frame (wpE (defs₀ (F := Ideal)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  rw [show (dats m 0 c).Φ t.castSucc = Pipeline.ΦA spec0 c from rfl, PhiA0_eq]
  iintro ⟨⟨⟨HS0, HS1, HS2, HS3⟩, Hg⟩, Ho, ⟨%d0, H0⟩, ⟨%d1, H1⟩, ⟨%d2, H2⟩, ⟨%d3, H3⟩, ⟨%d4, H4⟩, ⟨%d5, H5⟩⟩
  iapply (kernelRunV c (grid0.coords t) _ _ _ _ _ _ _ _ _ _ _ _ _ _ _ _ _ _ _ _ (iblk m c 0 t) (iblk m c 1 t) _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [HS3]; · iexact HS3
  iintro ⟨H0, H1, H2, H3, H4, H5, HS0, HS1, HS2, HS3⟩
  isplitl [HS0 HS1 HS2 HS3 Hg]
  · isplitl [HS0 HS1 HS2 HS3]
    · isplitl [HS0]
      · iexact HS0
      isplitl [HS1]
      · iexact HS1
      isplitl [HS2]
      · iexact HS2
      iexact HS3
    iexact Hg
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The run: every array of the pipeline ends at what its blocks say, every other buffer as the later lines leave it. -/
theorem run_main : θ_run defs (onTc (τ := τ) (main (F := Ideal))) (s₀ m ρ) (fun r => (Pipeline.FramePost cfgs (dats m) 0 (Pipeline.afterTail₀ cfgs (dats m) 0 (V0 m) [hostOps1])) r ∧ r.2.sem = fun _ => 0) :=
  Pipeline.θ_run_frame_around_shared (Q' := _) cfgs (dats m) (0 : Fin 1) launch₀0 defs₀ Variants.none m ρ main
    (hbody := fun c => (body_obligation m c).loose) (hq := fun _ _ _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

end Cert.Proof.KernelIdeal.Results

end
-- ==== Proof.Whole.lean ====
module

public import proofs.«01_k».proof.Proof.Exponent
public import Idealize.ShloMosaic.Lib.ValueIdxCore

/-!
The four results of the whole array, as mathematics.

The array `x` of 24 by 2048 by 3584 values is read as 49152 rows of 3584. Every run of 32 values along a row is a block of
the row quantisation, every run of 32 along a column a block of the column quantisation; the column results are given
transposed.
-/

@[expose] public section

noncomputable section

namespace Cert.Proof.Spec

open Idealize.ShloMosaic

/-- The value at row `R` and column `C` of the array read as rows. -/
def flat (x : (⟨3, ![24, 2048, 3584]⟩ : Shape).Idx → EReal) (R C : ℕ) : EReal :=
  if h : R < 49152 ∧ C < 3584 then
    x (ValueIdx.ix3 (⟨R / 2048, by omega⟩ : Fin 24) (⟨R % 2048, Nat.mod_lt _ (by omega)⟩ : Fin 2048) (⟨C, h.2⟩ : Fin 3584))
  else 0

/-- A value quantised with the 32 of its column's block, -/
def colQ (T : ℕ → ℕ → EReal) (R C : ℕ) : EReal := quant (T R C) (amax fun i => T (32 * (R / 32) + i.val) C)
/-- and with the 32 of its row's block. -/
def rowQ (T : ℕ → ℕ → EReal) (R C : ℕ) : EReal := quant (T R C) (amax fun i => T R (32 * (C / 32) + i.val))
/-- The scale code of column `C`'s block `B`, -/
def colC (T : ℕ → ℕ → EReal) (B C : ℕ) : BitVec 32 := code (amax fun i => T (32 * B + i.val) C)
/-- and of row `R`'s block `B`. -/
def rowC (T : ℕ → ℕ → EReal) (R B : ℕ) : BitVec 32 := code (amax fun i => T R (32 * B + i.val))

/-- The four results. -/
def qRow (x : (⟨3, ![24, 2048, 3584]⟩ : Shape).Idx → EReal) : (⟨2, ![49152, 3584]⟩ : Shape).Idx → EReal :=
  fun y => rowQ (flat x) (y 0).val (y 1).val
def sRow (x : (⟨3, ![24, 2048, 3584]⟩ : Shape).Idx → EReal) : (⟨2, ![49152, 112]⟩ : Shape).Idx → BitVec 8 :=
  fun y => (rowC (flat x) (y 0).val (y 1).val).setWidth 8
def qColT (x : (⟨3, ![24, 2048, 3584]⟩ : Shape).Idx → EReal) : (⟨2, ![3584, 49152]⟩ : Shape).Idx → EReal :=
  fun y => colQ (flat x) (y 1).val (y 0).val
def sCol (x : (⟨3, ![24, 2048, 3584]⟩ : Shape).Idx → EReal) : (⟨2, ![3584, 1536]⟩ : Shape).Idx → BitVec 8 :=
  fun y => (colC (flat x) (y 1).val (y 0).val).setWidth 8

variable {T U : ℕ → ℕ → EReal} {i j : ℕ} (h : ∀ R < 4096, ∀ C < 256, T R C = U (4096 * i + R) (256 * j + C))
include h

/-- A piece of 4096 rows and 256 columns holds whole blocks: its values quantised are the whole array's there. -/
theorem rowQ_piece {R C : ℕ} (hR : R < 4096) (hC : C < 256) : rowQ T R C = rowQ U (4096 * i + R) (256 * j + C) := by
  unfold rowQ
  rw [h R hR C hC]
  congr 2
  funext r
  have := r.isLt
  rw [h R hR _ (by omega), show 256 * j + (32 * (C / 32) + r.val) = 32 * ((256 * j + C) / 32) + r.val by omega]

theorem colQ_piece {R C : ℕ} (hR : R < 4096) (hC : C < 256) : colQ T R C = colQ U (4096 * i + R) (256 * j + C) := by
  unfold colQ
  rw [h R hR C hC]
  congr 2
  funext r
  have := r.isLt
  rw [h _ (by omega) C hC, show 4096 * i + (32 * (R / 32) + r.val) = 32 * ((4096 * i + R) / 32) + r.val by omega]

theorem rowC_piece {R B : ℕ} (hR : R < 4096) (hB : B < 8) : rowC T R B = rowC U (4096 * i + R) (8 * j + B) := by
  unfold rowC
  congr 2
  funext r
  have := r.isLt
  rw [h R hR _ (by omega), show 256 * j + (32 * B + r.val) = 32 * (8 * j + B) + r.val by omega]

theorem colC_piece {B C : ℕ} (hB : B < 128) (hC : C < 256) : colC T B C = colC U (128 * i + B) (256 * j + C) := by
  unfold colC
  congr 2
  funext r
  have := r.isLt
  rw [h _ (by omega) C hC, show 4096 * i + (32 * B + r.val) = 32 * (128 * i + B) + r.val by omega]

end Cert.Proof.Spec

end
-- ==== Proof.ResultsKernelIdeal.lean ====
module

public import proofs.«01_k».proof.Proof.RunKernelIdeal
public import proofs.«01_k».proof.Proof.Whole
public import Idealize.ShloMosaic.Lib.Pipeline.ValueKit
public import Idealize.ShloMosaic.Lib.ValueLayout
public import Idealize.ShloMosaic.Lib.Claim

/-!
The four result arrays of the kernel at exact arithmetic are the four results of the mathematics.
-/

@[expose] public section

set_option maxRecDepth 16384

noncomputable section

namespace Cert.Proof.KernelIdeal.Results

open Cert.KernelIdeal Cert.KernelIdeal.Gen
open Idealize.ShloMosaic hiding ix2 ix3 ix4
open Idealize.ShloMosaic.TcCoe Idealize.ShloMosaic.Tactic
open Idealize.ShloMosaic.ValueIdx
open Idealize.SL Idealize.SL.Sem

variable (m : (ℓ : Loc nD τ sig) → Buf (Elt Ideal) ℓ) (ρ : Dev nD → PrngReg) (c : Dev nD)

/-- The argument array. -/
abbrev arg : (⟨3, ![24, 2048, 3584]⟩ : Shape).Idx → EReal := m ((c : Thread nD τ).loc main_arg0)

/-- The array the blocks are read from: the argument's values, as rows. -/
theorem V_v0 : (V m c main_v0 : S49152x3584.Idx → EReal) = shapeCast S49152x3584 (arg m c) shapeCasts_S24x2048x3584_S49152x3584 := by
  entry_read
  try rfl

theorem V_v0_apply (y : S49152x3584.Idx) : (V m c main_v0 : S49152x3584.Idx → EReal) y = Spec.flat (arg m c) (y 0).val (y 1).val := by
  have h0 : (y 0).val < 49152 := (y 0).isLt
  have h1 : (y 1).val < 3584 := (y 1).isLt
  rw [V_v0]
  unfold Spec.flat
  rw [dif_pos ⟨h0, h1⟩]
  refine shapeCast_apply _ _ _ _ ?_
  rw [Shape.rowMajor_val_two, Shape.rowMajor_val_three]
  show ((y 0).val / 2048 * 2048 + (y 0).val % 2048) * 3584 + (y 1).val = (y 0).val * 3584 + (y 1).val
  omega

theorem e0 : ∀ t : Fin cfg0.N, win0_0.index t = ![(grid0.coords t 0).val, 2 * (grid0.coords t 1).val] := (by decide +kernel : ∀ t : Fin grid0.N, _)
theorem e1 : ∀ t : Fin cfg0.N, win0_1.index t = ![(grid0.coords t 0).val, 2 * (grid0.coords t 1).val + 1] := (by decide +kernel : ∀ t : Fin grid0.N, _)
theorem e2 : ∀ t : Fin cfg0.N, win0_2.index t = ![(grid0.coords t 0).val, (grid0.coords t 1).val] := (by decide +kernel : ∀ t : Fin grid0.N, _)
theorem e3 : ∀ t : Fin cfg0.N, win0_3.index t = ![(grid0.coords t 1).val, (grid0.coords t 0).val] := (by decide +kernel : ∀ t : Fin grid0.N, _)
theorem e4 : ∀ t : Fin cfg0.N, win0_4.index t = ![(grid0.coords t 1).val, (grid0.coords t 0).val] := (by decide +kernel : ∀ t : Fin grid0.N, _)
theorem e5 : ∀ t : Fin cfg0.N, win0_5.index t = ![(grid0.coords t 1).val, (grid0.coords t 0).val] := (by decide +kernel : ∀ t : Fin grid0.N, _)

/-- The two input blocks of a grid point, side by side, are 4096 rows and 256 columns of the array. -/
theorem tile_eq (t : Fin cfg0.N) : ∀ R < 4096, ∀ C < 256, tile (iblk m c 0 t) (iblk m c 1 t) R C
    = Spec.flat (arg m c) (4096 * (grid0.coords t 0).val + R) (256 * (grid0.coords t 1).val + C) := by
  intro R hR C hC
  unfold tile
  by_cases hl : C < 128
  · rw [dif_pos ⟨hR, hl⟩]
    blk_simp [iblk, e0]
    rw [V_v0_apply]
    blk_simp [e0]
    congr 1
    · show _ * 4096 + R = _; omega
    · show 2 * _ * 128 + C = _; omega
  · rw [dif_neg (by omega), dif_pos ⟨hR, by omega⟩]
    blk_simp [iblk, e1]
    rw [V_v0_apply]
    blk_simp [e1]
    congr 1
    · show _ * 4096 + R = _; omega
    · show (2 * _ + 1) * 128 + (C - 128) = _; omega

/-- The quantised rows' array. -/
theorem final2 : ((dats m 0 c).arrAt 2 cfg0.N : S49152x3584.Idx → EReal) = Spec.qRow (arg m c) := by
  refine (dats m 0 c).arrAt_eq_of_covers 2 _ (by decide +kernel) fun t hf y => ?_
  blk_simp
  rw [after0_2]
  refine (Spec.rowQ_piece (tile_eq m c t) (y 0).isLt (y 1).isLt).trans ?_
  unfold Spec.qRow
  blk_simp [e2]
  congr 1
  · exact congrArg (· + _) (Nat.mul_comm _ _)
  · exact congrArg (· + _) (Nat.mul_comm _ _)

/-- The row scales' array, which the kernel writes transposed. -/
theorem final3 : ((dats m 0 c).arrAt 3 cfg0.N : S112x49152.Idx → BitVec 8)
    = fun y => (Spec.rowC (Spec.flat (arg m c)) (y 1).val (y 0).val).setWidth 8 := by
  refine (dats m 0 c).arrAt_eq_of_covers 3 _ (by decide +kernel) fun t hf y => ?_
  blk_simp
  rw [after0_3]
  refine (congrArg (BitVec.setWidth 8) (Spec.rowC_piece (tile_eq m c t) (y 1).isLt (y 0).isLt)).trans ?_
  blk_simp [e3]
  congr 2
  · exact congrArg (· + _) (Nat.mul_comm _ _)
  · exact congrArg (· + _) (Nat.mul_comm _ _)

/-- The quantised columns' array. -/
theorem final4 : ((dats m 0 c).arrAt 4 cfg0.N : S3584x49152.Idx → EReal) = Spec.qColT (arg m c) := by
  refine (dats m 0 c).arrAt_eq_of_covers 4 _ (by decide +kernel) fun t hf y => ?_
  blk_simp
  rw [after0_4]
  refine (Spec.colQ_piece (tile_eq m c t) (y 1).isLt (y 0).isLt).trans ?_
  unfold Spec.qColT
  blk_simp [e4]
  congr 1
  · exact congrArg (· + _) (Nat.mul_comm _ _)
  · exact congrArg (· + _) (Nat.mul_comm _ _)

/-- The column scales' array. -/
theorem final5 : ((dats m 0 c).arrAt 5 cfg0.N : S3584x1536.Idx → BitVec 8) = Spec.sCol (arg m c) := by
  refine (dats m 0 c).arrAt_eq_of_covers 5 _ (by decide +kernel) fun t hf y => ?_
  blk_simp
  rw [after0_5]
  refine (congrArg (BitVec.setWidth 8) (Spec.colC_piece (tile_eq m c t) (y 1).isLt (y 0).isLt)).trans ?_
  unfold Spec.sCol
  blk_simp [e5]
  congr 2
  · exact congrArg (· + _) (Nat.mul_comm _ _)
  · exact congrArg (· + _) (Nat.mul_comm _ _)

/-- Only the two inputs share an array. -/
theorem arr_shared : ∀ w w' : Fin cfg0.W, w ≠ w' → Pipeline.arrRef spec0 w = Pipeline.arrRef spec0 w' → w = 0 ∨ w = 1 := by
  exact (by decide : ∀ w w' : Fin 6, w ≠ w' → Pipeline.arrRef spec0 w = Pipeline.arrRef spec0 w' → w = 0 ∨ w = 1)

/-- The row scales, transposed back after the kernel. -/
theorem tail2 : (Pipeline.afterTail₀ cfgs (dats m) 0 (V0 m) [hostOps1] c main_v2 : S49152x112.Idx → BitVec 8) = Spec.sRow (arg m c) := by
  have h : (Pipeline.afterTail₀ cfgs (dats m) 0 (V0 m) [hostOps1] c main_v2 : S49152x112.Idx → BitVec 8)
      = transpose S49152x112 [1, 0] ((dats m 0 c).arrAt 3 cfg0.N : S112x49152.Idx → BitVec 8) transposes_S112x49152_S49152x112_1_0 := by
    unfold Pipeline.afterTail₀
    simp only [List.flatten_cons, List.flatten_nil, List.append_nil, StableHlo.after_cons, StableHlo.after_nil]
    refine (StableHlo.unary_result _ _ _ _ _ _).trans ?_
    refine congrArg (transpose S49152x112 [1, 0] · transposes_S112x49152_S49152x112_1_0) ?_
    refine Pipeline.withArrays_arr_shared spec0 c _ _ (fun w w' hne e => ?_) 3
    rcases arr_shared w w' hne e with rfl | rfl
    · exact ((dats m 0 c).arrAt_in 0 rfl _).trans (A_eq m c 0)
    · exact ((dats m 0 c).arrAt_in 1 rfl _).trans (A_eq m c 1)
  rw [h, final3]
  funext y
  rw [ValueIdx.eq_ix2 y]
  refine (transpose_ix2_apply _ _ _ _).trans ?_
  rfl

/-- The run of the kernel: its four results, and the argument unchanged. -/
theorem run : θ_run defs (onTc (τ := τ) (main (F := Ideal))) ⟨m, fun _ => 0, ρ⟩ (fun r => ∀ c : Dev nD,
    r.2.mem ((c : Thread nD τ).loc main_v1_0) = Spec.qRow (arg m c)
    ∧ r.2.mem ((c : Thread nD τ).loc main_v2) = Spec.sRow (arg m c)
    ∧ r.2.mem ((c : Thread nD τ).loc main_v1_2) = Spec.qColT (arg m c)
    ∧ r.2.mem ((c : Thread nD τ).loc main_v1_3) = Spec.sCol (arg m c)
    ∧ r.2.mem ((c : Thread nD τ).loc main_arg0) = m ((c : Thread nD τ).loc main_arg0)) :=
  (θ_run defs _ _).mono (fun r h c => ⟨(h.1.out_eq c 2).trans (final2 m c),
    (h.1.rest_eq c main_v2 (Pipeline.mem_restRefs_of main_v2 (by decide) (by decide))).trans (tail2 m c),
    (h.1.out_eq c 4).trans (final4 m c), (h.1.out_eq c 5).trans (final5 m c),
    (h.1.rest_eq c main_arg0 (Pipeline.mem_restRefs_of main_arg0 (by decide) (by decide))).trans (W_main_arg0 m (dats m) c)⟩) (run_main m ρ)

end Cert.Proof.KernelIdeal.Results

end
-- ==== Proof.RefScalar.lean ====
module

public import proofs.«01_k».proof.Proof.QuantRead

/-!
The reference's arithmetic at one block: the exponent, the multiplier, the scale code and the quantised value it writes
down are those of the mathematics.
-/

@[expose] public section

noncomputable section

namespace Cert.Proof.Reference

open Idealize.ShloMosaic
open Cert.Proof.KernelIdeal (ofBits_448 ofBits_neg448 ofBits_normal ofBits_max ofBits_pow)

theorem ofBits_two : Ideal.ofBits .f32 0x40000000#32 = ((2 : ℝ) : EReal) := by
  rw [show (0x40000000#32) = BitVec.ofNat 32 (128 * 8388608) by decide, ofBits_pow _ (by norm_num) (by norm_num)]; norm_num

theorem ofBits_one : Ideal.ofBits .f32 0x3F800000#32 = ((1 : ℝ) : EReal) := by
  rw [show (0x3F800000#32) = BitVec.ofNat 32 (127 * 8388608) by decide, ofBits_pow _ (by norm_num) (by norm_num)]; norm_num

/-- The largest magnitude over 448. -/
def share (a : EReal) : EReal := Ideal.div a (Ideal.ofBits .f32 0x43E00000#32)

/-- The exponent as the reference writes it. -/
def expoTerm (a : EReal) : EReal :=
  min (((127#32 : BitVec 32).toInt : ℝ) : EReal) (max (((4294967169#32 : BitVec 32).toInt : ℝ) : EReal)
    (Scalar.select (Ideal.cmp .olt (share a) (Ideal.ofBits .f32 0x00800000#32) ||| Ideal.cmp .ogt a (Ideal.ofBits .f32 0x7F7FFFFF#32))
      (Ideal.ofBits .f32 0x00000000#32)
      (Ideal.liftRound Int.floor (Ideal.div (Ideal.log (share a)) (Ideal.log (Ideal.ofBits .f32 0x40000000#32))) + Ideal.ofBits .f32 0x3F800000#32)))

theorem share_coe (r : ℝ) : share (r : EReal) = ((r / 448 : ℝ) : EReal) := by
  unfold share
  rw [ofBits_448, Ideal.div_coe (by norm_num), ← EReal.coe_mul, mul_one_div]

theorem share_top : share ⊤ = ⊤ := by
  unfold share
  rw [ofBits_448, Ideal.div_coe (by norm_num), EReal.top_mul_coe_of_pos (by norm_num)]

/-- What the two comparisons decide. -/
theorem special_iff (a : EReal) (ha : 0 ≤ a) :
    (share a < (((2 : ℝ) ^ (-126 : ℤ) : ℝ) : EReal) ∨ ((Spec.f32Max : ℝ) : EReal) < a) ↔ (a < (Spec.tiny : EReal) ∨ (Spec.f32Max : EReal) < a) := by
  induction a with
  | bot => simp at ha
  | top => simp
  | coe r =>
    rw [share_coe]
    simp only [EReal.coe_lt_coe_iff]
    have : r / 448 < (2 : ℝ) ^ (-126 : ℤ) ↔ r < Spec.tiny := by
      unfold Spec.tiny
      rw [div_lt_iff₀ (by norm_num), mul_comm]
    rw [this]

/-- The logarithm's floor plus one, at a real share that is a normal float. -/
theorem floor_log (p : ℝ) (hp : 0 < p) :
    Ideal.liftRound Int.floor (Ideal.div (Ideal.log (p : EReal)) (Ideal.log (Ideal.ofBits .f32 0x40000000#32))) + Ideal.ofBits .f32 0x3F800000#32
      = (((⌊Spec.log2 p⌋ + 1 : ℤ) : ℝ) : EReal) := by
  have h2 : Real.log 2 ≠ 0 := (Real.log_pos (by norm_num)).ne'
  rw [ofBits_two, ofBits_one, Ideal.log_coe, Ideal.log_coe, if_neg (not_le.2 hp), if_neg (by norm_num), Ideal.div_coe h2,
    ← EReal.coe_mul, Ideal.liftRound_coe, ← EReal.coe_add, mul_one_div]
  unfold Spec.log2
  push_cast
  rfl

/-- The reference's exponent is the exponent of the magnitude. -/
theorem expoTerm_eq (a : EReal) (ha : 0 ≤ a) : expoTerm a = ((Spec.expo a : ℝ) : EReal) := by
  obtain ⟨b1, b2⟩ := Spec.expo_bounds a ha
  have key : Scalar.select (Ideal.cmp .olt (share a) (Ideal.ofBits .f32 0x00800000#32) ||| Ideal.cmp .ogt a (Ideal.ofBits .f32 0x7F7FFFFF#32))
      (Ideal.ofBits .f32 0x00000000#32)
      (Ideal.liftRound Int.floor (Ideal.div (Ideal.log (share a)) (Ideal.log (Ideal.ofBits .f32 0x40000000#32))) + Ideal.ofBits .f32 0x3F800000#32)
      = ((Spec.expo a : ℝ) : EReal) := by
    rw [ofBits_normal, ofBits_max]
    simp only [Ideal.cmp, BitVec.ofBool_or_ofBool, Cert.Proof.KernelIdeal.select_ofBool, Bool.or_eq_true, decide_eq_true_eq]
    simp only [special_iff a ha]
    unfold Spec.expo
    by_cases h : a < (Spec.tiny : EReal) ∨ (Spec.f32Max : EReal) < a
    · rw [if_pos h, if_pos h, Ideal.ofBits_zero_f32]; simp
    · rw [if_neg h, if_neg h]
      push Not at h
      obtain ⟨h1, h2⟩ := h
      induction a with
      | bot => simp at ha
      | top => simp at h2
      | coe r =>
        have hr : 0 < r := lt_of_lt_of_le (by unfold Spec.tiny; positivity) (EReal.coe_le_coe_iff.1 h1)
        rw [share_coe, floor_log _ (by positivity), EReal.toReal_coe]
  unfold expoTerm
  rw [key, show (127#32 : BitVec 32).toInt = 127 by decide, show (4294967169#32 : BitVec 32).toInt = -127 by decide]
  rw [max_eq_right (EReal.coe_le_coe_iff.2 (by exact_mod_cast (by omega : (-127 : ℤ) ≤ Spec.expo a))),
    min_eq_right (EReal.coe_le_coe_iff.2 (by exact_mod_cast (by omega : Spec.expo a ≤ (127 : ℤ))))]

/-- The reference's multiplier, two to the negated exponent. -/
theorem pow_eq (a : EReal) (ha : 0 ≤ a) : Ideal.pow (Ideal.ofBits .f32 0x40000000#32) (-(expoTerm a)) = Spec.mult a := by
  rw [expoTerm_eq a ha, ofBits_two, ← EReal.coe_neg, Ideal.pow_coe_coe]
  unfold Spec.mult
  rw [← Int.cast_neg]
  exact congrArg _ (Real.rpow_intCast 2 _)

/-- The reference's code, the exponent plus 127. -/
theorem code_eq (a : EReal) (ha : 0 ≤ a) : Ideal.fptosi 32 (expoTerm a) + 127#32 = Spec.code a := by
  obtain ⟨b1, b2⟩ := Spec.expo_bounds a ha
  rw [expoTerm_eq a ha]
  unfold Ideal.fptosi Spec.code
  rw [Ideal.toIntClamped_coe, Int.floor_intCast, Int.ceil_intCast, ite_self, show (127#32) = BitVec.ofInt 32 127 by decide, ← BitVec.ofInt_add]
  congr 2
  rw [max_eq_right, min_eq_right]
  · norm_num; omega
  · rw [min_eq_right] <;> norm_num <;> omega

/-- The reference's quantised value. -/
theorem quant_eq (v a : EReal) (ha : 0 ≤ a) :
    min (Ideal.ofBits .f32 0x43E00000#32) (max (Ideal.ofBits .f32 0xC3E00000#32) (v * Ideal.pow (Ideal.ofBits .f32 0x40000000#32) (-(expoTerm a))))
      = Spec.quant v a := by
  rw [pow_eq a ha, ofBits_448, ofBits_neg448]
  rfl

end Cert.Proof.Reference

end
-- ==== Proof.RefRead.lean ====
module

public import proofs.«01_k».proof.Proof.RefScalar
public import proofs.«01_k».proof.Proof.Whole
public import proofs.«01_k».proof.Proof.Gen.ReferenceIdeal.Run
public import Idealize.ShloMosaic.PureOps.Reduce
public import Idealize.ShloMosaic.Lib.ValueLayout
public import Idealize.ShloMosaic.Lib.Pipeline.Value

/-!
The reference's four results, read at an index, are the four results of the mathematics.
-/

@[expose] public section

noncomputable section

namespace Cert.Proof.Reference

open Cert.ReferenceIdeal Cert.ReferenceIdeal.Gen
open Idealize.ShloMosaic hiding ix2 ix3 ix4
open Idealize.ShloMosaic.TcCoe
open Idealize.ShloMosaic.ValueIdx
open Idealize.SL.Sem

/-- The exponents over a whole array of largest magnitudes, in the reference's own operations, -/
abbrev expoVec (s : Shape) (h : S_.BroadcastsInDim s ![]) (a : FVec Ideal s .f32) : FVec Ideal s .f32 :=
  minimumf (broadcastInDim s ![] h (sitofp .f32 (constantI S_ 32 127#32))) (maximumf (broadcastInDim s ![] h (sitofp .f32 (constantI S_ 32 4294967169#32)))
    (select (ori (cmpf .olt (Host.divf a (broadcastInDim s ![] h (constant S_ .f32 0x43E00000#32))) (broadcastInDim s ![] h (constant S_ .f32 0x00800000#32)))
        (cmpf .ogt a (broadcastInDim s ![] h (constant S_ .f32 0x7F7FFFFF#32))))
      (broadcastInDim s ![] h (id (constant S_ .f32 0x00000000#32)))
      (addf (Host.floor (Host.divf (Host.log (Host.divf a (broadcastInDim s ![] h (constant S_ .f32 0x43E00000#32))))
        (broadcastInDim s ![] h (Host.log (constant S_ .f32 0x40000000#32))))) (broadcastInDim s ![] h (constant S_ .f32 0x3F800000#32)))))

theorem expoVec_apply (s : Shape) (h : S_.BroadcastsInDim s ![]) (a : FVec Ideal s .f32) (y : s.Idx) : expoVec s h a y = expoTerm (a y) := rfl

/-- the multipliers, -/
abbrev multVec (s : Shape) (h : S_.BroadcastsInDim s ![]) (a : FVec Ideal s .f32) : FVec Ideal s .f32 :=
  Host.powf (broadcastInDim s ![] h (constant S_ .f32 0x40000000#32)) (Host.negf (expoVec s h a))

theorem multVec_apply (s : Shape) (h : S_.BroadcastsInDim s ![]) (a : FVec Ideal s .f32) (y : s.Idx) :
    multVec s h a y = Ideal.pow (Ideal.ofBits .f32 0x40000000#32) (-(expoTerm (a y))) := rfl

/-- the scale codes, -/
abbrev codeVec (s : Shape) (h : S_.BroadcastsInDim s ![]) (a : FVec Ideal s .f32) : IVec s 8 :=
  trunci 8 (addi (fptosi 32 (expoVec s h a)) (broadcastInDim s ![] h (constantI S_ 32 127#32))) natLt_8_32

theorem codeVec_apply (s : Shape) (h : S_.BroadcastsInDim s ![]) (a : FVec Ideal s .f32) (y : s.Idx) :
    codeVec s h a y = (Ideal.fptosi 32 (expoTerm (a y)) + 127#32).setWidth 8 := rfl

/-- and the values scaled and clipped. -/
abbrev clipVec (s : Shape) (h : S_.BroadcastsInDim s ![]) (v b : FVec Ideal s .f32) : FVec Ideal s .fp8e4m3 :=
  Host.convertf .fp8e4m3 (minimumf (broadcastInDim s ![] h (id (constant S_ .f32 0x43E00000#32)))
    (maximumf (broadcastInDim s ![] h (id (constant S_ .f32 0xC3E00000#32))) (mulf v b)))

theorem clipVec_apply (s : Shape) (h : S_.BroadcastsInDim s ![]) (v b : FVec Ideal s .f32) (y : s.Idx) :
    clipVec s h v b y = min (Ideal.ofBits .f32 0x43E00000#32) (max (Ideal.ofBits .f32 0xC3E00000#32) (v y * b y)) := rfl

theorem ofBits_neg_inf : Ideal.ofBits .f32 0xFF800000#32 = ⊥ := by
  unfold Ideal.ofBits Ideal.ieee
  dsimp only
  rw [show (8 + 23 : ℕ) = 31 from rfl, show ((0xFF800000#32).extractLsb' 31 1 == 1#1) = true by decide,
    show ((0xFF800000#32).extractLsb' 23 8).toNat = 255 by decide, show ((0xFF800000#32).extractLsb' 0 23).toNat = 0 by decide]
  simp

variable (x : (⟨3, ![24, 2048, 3584]⟩ : Shape).Idx → EReal)

/-- The array as rows of blocks, -/
abbrev byRow : FVec Ideal S49152x112x32 .f32 :=
  extf .f32 (shapeCast S49152x112x32 (x : FVec Ideal S24x2048x3584 .bf16) shapeCasts_S24x2048x3584_S49152x112x32) bitsLt_bf16_f32
/-- and as columns of blocks. -/
abbrev byCol : FVec Ideal S1536x32x3584 .f32 :=
  extf .f32 (shapeCast S1536x32x3584 (x : FVec Ideal S24x2048x3584 .bf16) shapeCasts_S24x2048x3584_S1536x32x3584) bitsLt_bf16_f32

theorem byRow_apply (R : Fin 49152) (B : Fin 112) (i : Fin 32) : byRow x (ix3 R B i) = Spec.flat x R.val (32 * B.val + i.val) := by
  have h0 := R.isLt; have h1 := B.isLt; have h2 := i.isLt
  unfold Spec.flat
  rw [dif_pos ⟨h0, by omega⟩]
  refine shapeCast_apply _ _ _ _ ?_
  rw [Shape.rowMajor_val_three, Shape.rowMajor_val_three]
  show (R.val / 2048 * 2048 + R.val % 2048) * 3584 + (32 * B.val + i.val) = (R.val * 112 + B.val) * 32 + i.val
  omega

theorem byCol_apply (B : Fin 1536) (i : Fin 32) (C : Fin 3584) : byCol x (ix3 B i C) = Spec.flat x (32 * B.val + i.val) C.val := by
  have h0 := B.isLt; have h1 := i.isLt; have h2 := C.isLt
  unfold Spec.flat
  rw [dif_pos ⟨by omega, h2⟩]
  refine shapeCast_apply _ _ _ _ ?_
  rw [Shape.rowMajor_val_three, Shape.rowMajor_val_three]
  show ((32 * B.val + i.val) / 2048 * 2048 + (32 * B.val + i.val) % 2048) * 3584 + C.val = (B.val * 32 + i.val) * 3584 + C.val
  omega

/-- The largest magnitudes, over rows of blocks -/
abbrev rowMax : FVec Ideal S49152x112 .f32 :=
  Host.reduce FloatOps.maximumf (Host.absf (byRow x)) (constant S_ .f32 0xFF800000#32) reducesTo_S49152x112x32_S49152x112_d2 h_S_
/-- and over columns of blocks. -/
abbrev colMax : FVec Ideal S1536x3584 .f32 :=
  Host.reduce FloatOps.maximumf (Host.absf (byCol x)) (constant S_ .f32 0xFF800000#32) reducesTo_S1536x32x3584_S1536x3584_d1 h_S_

theorem row_reduces : S49152x112x32.Reduces [2] S49152x112 := by decide
theorem col_reduces : S1536x32x3584.Reduces [1] S1536x3584 := by decide

theorem row_lift (R : Fin 49152) (B : Fin 112) (i : Fin 32) : row_reduces.lift (ix2 R B) i = ix3 R B i := by
  funext a
  match a with
  | ⟨0, _⟩ => exact Fin.ext rfl
  | ⟨1, _⟩ => exact Fin.ext rfl
  | ⟨2, _⟩ => exact Fin.ext rfl

theorem col_lift (B : Fin 1536) (C : Fin 3584) (i : Fin 32) : col_reduces.lift (ix2 B C) i = ix3 B i C := by
  funext a
  match a with
  | ⟨0, _⟩ => exact Fin.ext rfl
  | ⟨1, _⟩ => exact Fin.ext rfl
  | ⟨2, _⟩ => exact Fin.ext rfl

/-- They are the largest magnitudes of the blocks. -/
theorem rowMax_apply (R : Fin 49152) (B : Fin 112) : rowMax x (ix2 R B) = Spec.amax fun i => Spec.flat x R.val (32 * B.val + i.val) := by
  refine (Host.reduce_eq_fold_single _ _ _ _ row_reduces _ _).trans ?_
  show Finset.fold _ (Ideal.ofBits .f32 0xFF800000#32) _ _ = _
  rw [ofBits_neg_inf]
  unfold Spec.amax Finset.sup
  refine Finset.fold_congr fun i _ => ?_
  have e : byRow x (row_reduces.lift (ix2 R B) i) = Spec.flat x R.val (32 * B.val + i.val) := by
    exact (congrArg (byRow x) (row_lift R B i)).trans (byRow_apply x R B i)
  exact congrArg (fun v : EReal => max v (-v)) e

theorem colMax_apply (B : Fin 1536) (C : Fin 3584) : colMax x (ix2 B C) = Spec.amax fun i => Spec.flat x (32 * B.val + i.val) C.val := by
  refine (Host.reduce_eq_fold_single _ _ _ _ col_reduces _ _).trans ?_
  show Finset.fold _ (Ideal.ofBits .f32 0xFF800000#32) _ _ = _
  rw [ofBits_neg_inf]
  unfold Spec.amax Finset.sup
  refine Finset.fold_congr fun i _ => ?_
  have e : byCol x (col_reduces.lift (ix2 B C) i) = Spec.flat x (32 * B.val + i.val) C.val := by
    exact (congrArg (byCol x) (col_lift B C i)).trans (byCol_apply x B i C)
  exact congrArg (fun v : EReal => max v (-v)) e

/-- A row of blocks' multipliers, one for each of its 32 values, -/
abbrev rowMult : FVec Ideal S49152x112x32 .f32 :=
  broadcastInDim S49152x112x32 ![0, 1, 2] bcast_S49152x112x1_S49152x112x32_0_1_2
    (broadcastInDim S49152x112x1 ![0, 1] bcast_S49152x112_S49152x112x1_0_1 (multVec S49152x112 bcast_S_S49152x112 (rowMax x)))
/-- and a column's. -/
abbrev colMult : FVec Ideal S1536x32x3584 .f32 :=
  broadcastInDim S1536x32x3584 ![0, 1, 2] bcast_S1536x1x3584_S1536x32x3584_0_1_2
    (broadcastInDim S1536x1x3584 ![0, 2] bcast_S1536x3584_S1536x1x3584_0_2 (multVec S1536x3584 bcast_S_S1536x3584 (colMax x)))

theorem rowMult_apply (R : Fin 49152) (B : Fin 112) (i : Fin 32) :
    rowMult x (ix3 R B i) = Ideal.pow (Ideal.ofBits .f32 0x40000000#32) (-(expoTerm (rowMax x (ix2 R B)))) := by
  refine (broadcastInDim_apply _ _ _ _ (ix3 R B (0 : Fin 1)) fun a => ?_).trans
    ((broadcastInDim_apply _ _ _ _ (ix2 R B) fun a => ?_).trans (multVec_apply _ _ _ _))
  · match a with
    | ⟨0, _⟩ => rfl
    | ⟨1, _⟩ => rfl
    | ⟨2, _⟩ => rfl
  · match a with
    | ⟨0, _⟩ => rfl
    | ⟨1, _⟩ => rfl

theorem colMult_apply (B : Fin 1536) (i : Fin 32) (C : Fin 3584) :
    colMult x (ix3 B i C) = Ideal.pow (Ideal.ofBits .f32 0x40000000#32) (-(expoTerm (colMax x (ix2 B C)))) := by
  refine (broadcastInDim_apply _ _ _ _ (ix3 B (0 : Fin 1) C) fun a => ?_).trans
    ((broadcastInDim_apply _ _ _ _ (ix2 B C) fun a => ?_).trans (multVec_apply _ _ _ _))
  · match a with
    | ⟨0, _⟩ => rfl
    | ⟨1, _⟩ => rfl
    | ⟨2, _⟩ => rfl
  · match a with
    | ⟨0, _⟩ => rfl
    | ⟨1, _⟩ => rfl

/-- The quantised rows. -/
theorem rows_eq : (shapeCast S49152x3584 (clipVec S49152x112x32 bcast_S_S49152x112x32 (byRow x) (rowMult x)) shapeCasts_S49152x112x32_S49152x3584
    : S49152x3584.Idx → EReal) = Spec.qRow x := by
  funext y
  have h0 : (y 0).val < 49152 := (y 0).isLt
  have h1 : (y 1).val < 3584 := (y 1).isLt
  refine (shapeCast_apply _ _ _ (ix3 (⟨(y 0).val, h0⟩ : Fin 49152) (⟨(y 1).val / 32, by omega⟩ : Fin 112) (⟨(y 1).val % 32, by omega⟩ : Fin 32)) ?_).trans ?_
  · rw [Shape.rowMajor_val_three, Shape.rowMajor_val_two]
    show ((y 0).val * 112 + (y 1).val / 32) * 32 + (y 1).val % 32 = (y 0).val * 3584 + (y 1).val
    omega
  · rw [clipVec_apply, rowMult_apply, rowMax_apply, byRow_apply, quant_eq _ _ (Spec.amax_nonneg _)]
    unfold Spec.qRow Spec.rowQ
    simp only [show 32 * ((y 1).val / 32) + (y 1).val % 32 = (y 1).val by omega]

/-- The rows' scale codes. -/
theorem rowCodes_eq : (codeVec S49152x112 bcast_S_S49152x112 (rowMax x) : S49152x112.Idx → BitVec 8) = Spec.sRow x := by
  funext y
  rw [codeVec_apply]
  refine congrArg (BitVec.setWidth 8) ?_
  have e : rowMax x y = Spec.amax fun i => Spec.flat x (y 0).val (32 * (y 1).val + i.val) :=
    (congrArg (rowMax x) (ValueIdx.eq_ix2 y)).trans (rowMax_apply x (y 0) (y 1))
  rw [e, code_eq _ (Spec.amax_nonneg _)]
  rfl

/-- The quantised columns, transposed. -/
theorem cols_eq : (transpose S3584x49152 [1, 0] (shapeCast S49152x3584 (clipVec S1536x32x3584 bcast_S_S1536x32x3584 (byCol x) (colMult x))
    shapeCasts_S1536x32x3584_S49152x3584) transposes_S49152x3584_S3584x49152_1_0 : S3584x49152.Idx → EReal) = Spec.qColT x := by
  funext y
  have h0 : (y 0).val < 3584 := (y 0).isLt
  have h1 : (y 1).val < 49152 := (y 1).isLt
  refine (congrArg _ (ValueIdx.eq_ix2 y)).trans ((transpose_ix2_apply _ _ _ _).trans ?_)
  refine (shapeCast_apply _ _ _ (ix3 (⟨(y 1).val / 32, by omega⟩ : Fin 1536) (⟨(y 1).val % 32, by omega⟩ : Fin 32) (⟨(y 0).val, h0⟩ : Fin 3584)) ?_).trans ?_
  · rw [Shape.rowMajor_val_three, Shape.rowMajor_val_two]
    show ((y 1).val / 32 * 32 + (y 1).val % 32) * 3584 + (y 0).val = (y 1).val * 3584 + (y 0).val
    omega
  · rw [clipVec_apply, colMult_apply, colMax_apply, byCol_apply, quant_eq _ _ (Spec.amax_nonneg _)]
    unfold Spec.qColT Spec.colQ
    simp only [show 32 * ((y 1).val / 32) + (y 1).val % 32 = (y 1).val by omega]

/-- The columns' scale codes, transposed. -/
theorem colCodes_eq : (transpose S3584x1536 [1, 0] (codeVec S1536x3584 bcast_S_S1536x3584 (colMax x)) transposes_S1536x3584_S3584x1536_1_0
    : S3584x1536.Idx → BitVec 8) = Spec.sCol x := by
  funext y
  refine (congrArg _ (ValueIdx.eq_ix2 y)).trans ((transpose_ix2_apply _ _ _ _).trans ?_)
  rw [codeVec_apply]
  refine congrArg (BitVec.setWidth 8) ?_
  rw [colMax_apply x (y 1) (y 0), code_eq _ (Spec.amax_nonneg _)]
  rfl

/-- The run of the reference: its four results, and the argument unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v64) = Spec.qRow (m ((c.tc : Thread nD τ).loc main_arg0))
      ∧ r.2.mem ((c.tc : Thread nD τ).loc main_v31) = Spec.sRow (m ((c.tc : Thread nD τ).loc main_arg0))
      ∧ r.2.mem ((c.tc : Thread nD τ).loc main_v66) = Spec.qColT (m ((c.tc : Thread nD τ).loc main_arg0))
      ∧ r.2.mem ((c.tc : Thread nD τ).loc main_v67) = Spec.sCol (m ((c.tc : Thread nD τ).loc main_arg0))
      ∧ r.2.mem ((c.tc : Thread nD τ).loc main_arg0) = m ((c.tc : Thread nD τ).loc main_arg0) :=
  (θ_run defs _ _).mono (fun _ h c => ⟨(h c).1.trans (rows_eq _), (h c).2.1.trans (rowCodes_eq _), (h c).2.2.1.trans (cols_eq _),
    (h c).2.2.2.1.trans (colCodes_eq _), (h c).2.2.2.2⟩) (Cert.ReferenceIdeal.Value.run (F := Ideal) m ρ)

end Cert.Proof.Reference

end
-- ==== Proof.lean ====
module

public import proofs.«01_k».proof.Defs
public import proofs.«01_k».proof.Proof.FrameKernel
public import proofs.«01_k».proof.Proof.FrameKernelIdeal
public import proofs.«01_k».proof.Proof.Preserves
public import proofs.«01_k».proof.Proof.ResultsKernelIdeal
public import proofs.«01_k».proof.Proof.RefRead
public import proofs.«01_k».proof.Proof.Gen.ReferenceIdeal
public import proofs.«01_k».proof.Proof.Gen.ReferenceIdeal.Run
public import Idealize.ShloMosaic.Adequacy
public import Idealize.ShloMosaic.Init

/-!
The five claims: each program runs to its end and leaves its argument alone; the ideal program is the kernel read over the
extended reals; and there the kernel's four results are the reference's.
-/

@[expose] public section

noncomputable section

namespace Cert.Proof

open Idealize.ShloMosaic Idealize.SL.Sem

/-- The kernel ends and leaves its argument unchanged, -/
theorem frame_p : Cert.quiescent_Kernel := fun m ρ _ => Kernel.frame m ρ

/-- so does the kernel over the extended reals, -/
theorem frame_pi : Cert.quiescent_KernelIdeal := fun m ρ _ => KernelIdeal.frame m ρ

/-- and so does the reference. -/
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)

/-- From the same argument the kernel and the reference end with the same four results. -/
theorem algebraic : Cert.algebraic_KernelIdeal_ReferenceIdeal := fun m g m' g' _ hin =>
  ⟨fun c => Spec.qRow (KernelIdeal.Results.arg m c), fun c => Spec.sRow (KernelIdeal.Results.arg m c),
    fun c => Spec.qColT (KernelIdeal.Results.arg m c), fun c => Spec.sCol (KernelIdeal.Results.arg m c),
    KernelIdeal.Results.run m g,
    (θ_run Cert.ReferenceIdeal.defs _ _).mono (fun r h c =>
      ⟨(h c).1.trans (congrArg Spec.qRow (hin c)), (h c).2.1.trans (congrArg Spec.sRow (hin c)),
        (h c).2.2.1.trans (congrArg Spec.qColT (hin c)), (h c).2.2.2.1.trans (congrArg Spec.sCol (hin c)), (h c).2.2.2.2⟩)
      (Reference.run m' g')⟩

/-- All five together. -/
theorem claim : Cert.Claim :=
  ⟨Cert.Kernel.Gen.facts, Cert.KernelIdeal.Gen.facts, Cert.ReferenceIdeal.Gen.facts,
    frame_p, frame_pi, frame_ri, preserves, algebraic⟩

end Cert.Proof

end
